-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![65536, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x128 : Shape := ⟨2, ![512, 128]⟩
abbrev S2048x1 : Shape := ⟨2, ![2048, 1]⟩
abbrev S4x512x1024 : Shape := ⟨3, ![4, 512, 1024]⟩
abbrev S2048 : Shape := ⟨1, ![2048]⟩
abbrev S128 : Shape := ⟨1, ![128]⟩
abbrev S1x128 : Shape := ⟨2, ![1, 128]⟩
abbrev S2048x128 : Shape := ⟨2, ![2048, 128]⟩
abbrev S_ : Shape := ⟨0, ![]⟩
abbrev S2048x1024 : Shape := ⟨2, ![2048, 1024]⟩
abbrev S2x4x512x1024 : Shape := ⟨4, ![2, 4, 512, 1024]⟩
abbrev S2x1x128 : Shape := ⟨3, ![2, 1, 128]⟩
abbrev S32x128 : Shape := ⟨2, ![32, 128]⟩
abbrev S2 : Shape := ⟨1, ![2]⟩
abbrev S1x4x512x1024 : Shape := ⟨4, ![1, 4, 512, 1024]⟩
abbrev S1x1x128 : Shape := ⟨3, ![1, 1, 128]⟩
abbrev S1 : Shape := ⟨1, ![1]⟩
abbrev S2048x2048 : Shape := ⟨2, ![2048, 2048]⟩

abbrev nBuf : Space → Nat
  | .hbm => 25
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S4x512x1024, .bf16⟩
  | .hbm, ⟨4, _⟩ => ⟨S2048, .i32⟩
  | .hbm, ⟨5, _⟩ => ⟨S2048x1, .i32⟩
  | .hbm, ⟨6, _⟩ => ⟨S128, .i32⟩
  | .hbm, ⟨7, _⟩ => ⟨S1x128, .i32⟩
  | .hbm, ⟨8, _⟩ => ⟨S2048x128, .i32⟩
  | .hbm, ⟨9, _⟩ => ⟨S2048x128, .i32⟩
  | .hbm, ⟨10, _⟩ => ⟨S2048x128, .i1⟩
  | .hbm, ⟨11, _⟩ => ⟨S2048x128, .i32⟩
  | .hbm, ⟨12, _⟩ => ⟨S_, .i32⟩
  | .hbm, ⟨13, _⟩ => ⟨S128, .i32⟩
  | .hbm, ⟨14, _⟩ => ⟨S1x128, .i32⟩
  | .hbm, ⟨15, _⟩ => ⟨S_, .i32⟩
  | .hbm, ⟨16, _⟩ => ⟨S_, .i32⟩
  | .hbm, ⟨17, _⟩ => ⟨S2048x128, .i32⟩
  | .hbm, ⟨18, _⟩ => ⟨S2048x128, .i32⟩
  | .hbm, ⟨19, _⟩ => ⟨S2048x128, .i32⟩
  | .hbm, ⟨20, _⟩ => ⟨S_, .i32⟩
  | .hbm, ⟨21, _⟩ => ⟨S2048, .i32⟩
  | .hbm, ⟨22, _⟩ => ⟨S2048x1, .i32⟩
  | .hbm, ⟨23, _⟩ => ⟨S2048x1, .f32⟩
  | .hbm, ⟨24, _⟩ => ⟨S2048x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S1x128, .i32⟩
  | .local _ .vmem, ⟨4, _⟩ => ⟨S2048x1, .f32⟩
  | .local _ .vmem, ⟨5, _⟩ => ⟨S2048x1024, .f32⟩
  | .local _ .vmem, ⟨6, _⟩ => ⟨S2x4x512x1024, .bf16⟩
  | .local _ .vmem, ⟨7, _⟩ => ⟨S2x1x128, .i32⟩
  | .local _ .vmem, ⟨8, _⟩ => ⟨S32x128, .i32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_call0_call0_c : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : Index := Scalar.indexCast v2
  let c0_23 : Index := 0#32
  ![v25.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_27 : BitVec 32 := 1#32
  let v31 : BitVec 32 := Scalar.muli v5 c1_i32_27
  let v32 : BitVec 32 := Scalar.addi c0_i32_28 v31
  v32.toNat
@[reducible] def k0_t1_loop : Scf.Loop 32 :=
  let c0_i32_29 : BitVec 32 := 0#32
  let c15_i32 : BitVec 32 := 15#32
  let v33 : BitVec 32 := Scalar.addi c0_i32_29 c15_i32
  let c1_i32_30 : BitVec 32 := 1#32
  ⟨c0_i32_29, v33, c1_i32_30⟩
def k0_dev4 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_193 : BitVec 32 := 1#32
  let v252 : BitVec 32 := Scalar.muli v7 c1_i32_193
  let v253 : BitVec 32 := Scalar.addi c0_i32_194 v252
  v253.toNat
def k0_dev5 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_205 : BitVec 32 := 1#32
  let v262 : BitVec 32 := Scalar.muli v7 c1_i32_205
  let v263 : BitVec 32 := Scalar.addi c0_i32_206 v262
  v263.toNat
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_186 : BitVec 32 := 2#32
  let c0_i32_29 : BitVec 32 := 0#32
  let c1_i32_30 : BitVec 32 := 1#32
  let arg14 : BitVec 32 := Scf.iv c0_i32_29 c1_i32_30 k0_t1
  let v251 : BitVec 32 := Scalar.muli c2_i32_186 arg14
  let v364 : BitVec 32 := Scalar.subi v2 v251
  let c1_i32_288 : BitVec 32 := 1#32
  let v365 : BitVec 32 := Scalar.subi v364 c1_i32_288
  let c64_i32_289 : BitVec 32 := 64#32
  let v366 : BitVec 32 := Scalar.addi v365 c64_i32_289
  let c32_i32_290 : BitVec 32 := 32#32
  let v367 : BitVec 32 := Scalar.remsi v366 c32_i32_290
  let v370 : Index := Scalar.indexCast v367
  let c0_294 : Index := 0#32
  ![v370.toNat, 0]
def k0_dev6 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_296 : BitVec 32 := 1#32
  let v374 : BitVec 32 := Scalar.muli v5 c1_i32_296
  let v375 : BitVec 32 := Scalar.addi c0_i32_297 v374
  v375.toNat
def k0_dev7 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_306 : BitVec 32 := 1#32
  let v378 : BitVec 32 := Scalar.muli v7 c1_i32_306
  let v379 : BitVec 32 := Scalar.addi c0_i32_307 v378
  v379.toNat
def k0_dev8 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_318 : BitVec 32 := 1#32
  let v388 : BitVec 32 := Scalar.muli v7 c1_i32_318
  let v389 : BitVec 32 := Scalar.addi c0_i32_319 v388
  v389.toNat
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let c0_i32_29 : BitVec 32 := 0#32
  let c1_i32_30 : BitVec 32 := 1#32
  let arg14 : BitVec 32 := Scf.iv c0_i32_29 c1_i32_30 k0_t1
  let v376 : BitVec 32 := Scalar.muli c2_i32_298 arg14
  let c1_i32_299 : BitVec 32 := 1#32
  let v377 : BitVec 32 := Scalar.addi v376 c1_i32_299
  let v490 : BitVec 32 := Scalar.subi v2 v377
  let c1_i32_401 : BitVec 32 := 1#32
  let v491 : BitVec 32 := Scalar.subi v490 c1_i32_401
  let c64_i32_402 : BitVec 32 := 64#32
  let v492 : BitVec 32 := Scalar.addi v491 c64_i32_402
  let c32_i32_403 : BitVec 32 := 32#32
  let v493 : BitVec 32 := Scalar.remsi v492 c32_i32_403
  let v496 : Index := Scalar.indexCast v493
  let c0_407 : Index := 0#32
  ![v496.toNat, 0]
def k0_dev9 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_409 : BitVec 32 := 1#32
  let v500 : BitVec 32 := Scalar.muli v5 c1_i32_409
  let v501 : BitVec 32 := Scalar.addi c0_i32_410 v500
  v501.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_38 : BitVec 32 := 1#32
  let v34 : BitVec 32 := Scalar.muli v7 c1_i32_38
  let v35 : BitVec 32 := Scalar.addi c0_i32_39 v34
  v35.toNat
def k0_dev11 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_50 : BitVec 32 := 1#32
  let v44 : BitVec 32 := Scalar.muli v7 c1_i32_50
  let v45 : BitVec 32 := Scalar.addi c0_i32_51 v44
  v45.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_130 : BitVec 32 := 30#32
  let v146 : BitVec 32 := Scalar.subi v2 c30_i32_130
  let c1_i32_131 : BitVec 32 := 1#32
  let v147 : BitVec 32 := Scalar.subi v146 c1_i32_131
  let c64_i32_132 : BitVec 32 := 64#32
  let v148 : BitVec 32 := Scalar.addi v147 c64_i32_132
  let c32_i32_133 : BitVec 32 := 32#32
  let v149 : BitVec 32 := Scalar.remsi v148 c32_i32_133
  let v152 : Index := Scalar.indexCast v149
  let c0_136 : Index := 0#32
  ![v152.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S65536x512 : Shape := ⟨2, ![65536, 512]⟩
abbrev S512x128 : Shape := ⟨2, ![512, 128]⟩
abbrev S65536x1 : Shape := ⟨2, ![65536, 1]⟩
abbrev S128x512x1024 : Shape := ⟨3, ![128, 512, 1024]⟩
abbrev S65536 : Shape := ⟨1, ![65536]⟩
abbrev S128 : Shape := ⟨1, ![128]⟩
abbrev S1x128 : Shape := ⟨2, ![1, 128]⟩
abbrev S65536x128 : Shape := ⟨2, ![65536, 128]⟩
abbrev S_ : Shape := ⟨0, ![]⟩
abbrev S65536x512x1024 : Shape := ⟨3, ![65536, 512, 1024]⟩
abbrev S65536x1024 : Shape := ⟨2, ![65536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S512x128, .bf16⟩
  | .hbm, ⟨2, _⟩ => ⟨S65536x1, .i32⟩
  | .hbm, ⟨3, _⟩ => ⟨S128x512x1024, .bf16⟩
  | .hbm, ⟨4, _⟩ => ⟨S65536, .i32⟩
  | .hbm, ⟨5, _⟩ => ⟨S65536x1, .i32⟩
  | .hbm, ⟨6, _⟩ => ⟨S128, .i32⟩
  | .hbm, ⟨7, _⟩ => ⟨S1x128, .i32⟩
  | .hbm, ⟨8, _⟩ => ⟨S65536x128, .i32⟩
  | .hbm, ⟨9, _⟩ => ⟨S65536x128, .i32⟩
  | .hbm, ⟨10, _⟩ => ⟨S65536x128, .i1⟩
  | .hbm, ⟨11, _⟩ => ⟨S65536x128, .i32⟩
  | .hbm, ⟨12, _⟩ => ⟨S_, .i32⟩
  | .hbm, ⟨13, _⟩ => ⟨S_, .i32⟩
  | .hbm, ⟨14, _⟩ => ⟨S65536x128, .i32⟩
  | .hbm, ⟨15, _⟩ => ⟨S65536x128, .i32⟩
  | .hbm, ⟨16, _⟩ => ⟨S65536x128, .i32⟩
  | .hbm, ⟨17, _⟩ => ⟨S_, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S65536, .i1⟩
  | .hbm, ⟨30, _⟩ => ⟨S128x512x1024, .f32⟩
  | .hbm, ⟨31, _⟩ => ⟨S65536x1, .i32⟩
  | .hbm, ⟨32, _⟩ => ⟨S65536x512x1024, .f32⟩
  | .hbm, ⟨33, _⟩ => ⟨S65536x512, .f32⟩
  | .hbm, ⟨34, _⟩ => ⟨S65536x1024, .f32⟩
  | .hbm, ⟨35, _⟩ => ⟨S65536x1, .i1⟩
  | .hbm, ⟨36, _⟩ => ⟨S_, .f32⟩
  | .hbm, ⟨37, _⟩ => ⟨S_, .f32⟩
  | .hbm, ⟨38, _⟩ => ⟨S65536x1024, .i1⟩
  | .hbm, ⟨39, _⟩ => ⟨S65536x1024, .f32⟩
  | .hbm, ⟨40, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Ring.lean ====
/-
# The ring protocol

Every device sends the expert weights and the expert counts it last received to the next device of a ring of 32, in 31
hops, through two slots. This module states who owns what when: the semaphore cells of the protocol, which rounds each of
them goes through, what each signal or landing copy hands over, what every device still owes at every hop, and the levels
by which no wait closes a circle.

`WV c` and `HV c` stand for the weights and the counts device `c` starts with.
-/
module

public import proofs.«01_k».proof.Proof.Gen.KernelIdeal.Frame
public import Idealize.ShloMosaic.Lib.Pipeline.Launch
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's copy of the rounds and the ring's own, whose duties are named by booleans -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring of devices -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩
set_option backward.proofsInPublic true in
/-- The device `k` places before `c`. -/
def org (c : Dev nD) (k : ℕ) : Dev nD := ⟨(c.val + 31 * k) % 32, Nat.mod_lt _ (by decide)⟩

theorem prv_nxt (c : Dev nD) : prv (nxt c) = c := by
  apply Fin.ext; have h : c.val < 32 := c.isLt; simp only [prv, nxt]; omega
theorem nxt_prv (c : Dev nD) : nxt (prv c) = c := by
  apply Fin.ext; have h : c.val < 32 := c.isLt; simp only [prv, nxt]; omega
theorem org_zero (c : Dev nD) : org c 0 = c := by
  apply Fin.ext; have h : c.val < 32 := c.isLt; simp only [org]; omega
theorem org_nxt (c : Dev nD) (k : ℕ) : org (nxt c) (k + 1) = org c k := by
  apply Fin.ext; have h : c.val < 32 := c.isLt; simp only [org, nxt]; omega
theorem org_prv (c : Dev nD) (k : ℕ) : org (prv c) k = org c (k + 1) := by
  apply Fin.ext; have h : c.val < 32 := c.isLt; simp only [org, prv]; omega

def ring : Dev nD ≃ Dev nD := ⟨nxt, prv, prv_nxt, nxt_prv⟩

/-! ## Cells -/

/-- The parts a semaphore plays: the entry barrier, the credit, and for each slot the sending and the receiving semaphore
    of the weights and of the counts. -/
inductive Role : Type
  | bar | cr
  | ws (s : Fin 2) | wr (s : Fin 2) | hs (s : Fin 2) | hr (s : Fin 2)
deriving DecidableEq

open Role

/-- The semaphore that plays a part. -/
def semOf : Role → SemLoc sig
  | bar => .reg barrier0
  | cr => .reg (0 : Sem sig)
  | ws 0 => .dma (6 : DmaSem sig)
  | ws 1 => .dma (7 : DmaSem sig)
  | wr 0 => .dma (8 : DmaSem sig)
  | wr 1 => .dma (9 : DmaSem sig)
  | hs 0 => .dma (10 : DmaSem sig)
  | hs 1 => .dma (11 : DmaSem sig)
  | hr 0 => .dma (12 : DmaSem sig)
  | hr 1 => .dma (13 : DmaSem sig)

/-- The part a semaphore plays, if any. -/
def roleOf : SemLoc sig → Option Role
  | .reg i => if i.val = 0 then some cr else some bar
  | .dma i => match i.val with
    | 6 => some (ws 0) | 7 => some (ws 1) | 8 => some (wr 0) | 9 => some (wr 1)
    | 10 => some (hs 0) | 11 => some (hs 1) | 12 => some (hr 0) | 13 => some (hr 1)
    | _ => none

theorem roleOf_semOf (k : Role) : roleOf (semOf k) = some k := by
  rcases k with _ | _ | s | s | s | s <;> first | rfl | (fin_cases s <;> rfl)

theorem semOf_inj {k k' : Role} (h : semOf k = semOf k') : k = k' := by
  have := congrArg roleOf h; rw [roleOf_semOf, roleOf_semOf] at this; exact Option.some.inj this

abbrev cell (c : Dev nD) (k : Role) : GSem nD τ sig := ((c : Thread nD τ), semOf k)

/-! ## Slots -/

abbrev wM : Memref sig .tc .vmem S2x4x512x1024 .bf16 := Memref.whole cc0_scratch0
abbrev hM : Memref sig .tc .vmem S2x1x128 .i32 := Memref.whole cc0_scratch1

abbrev wRect (s : Fin 2) : Rect S2x4x512x1024 := match s with
  | 0 => Rect.unit (s := S2x4x512x1024) ![0, 0, 0, 0] S1x4x512x1024.size inb_S2x4x512x1024_S1x4x512x1024_0_0_0_0
  | 1 => Rect.unit (s := S2x4x512x1024) ![1, 0, 0, 0] S1x4x512x1024.size inb_S2x4x512x1024_S1x4x512x1024_1_0_0_0
abbrev hRect (s : Fin 2) : Rect S2x1x128 := match s with
  | 0 => Rect.unit (s := S2x1x128) ![0, 0, 0] S1x1x128.size inb_S2x1x128_S1x1x128_0_0_0
  | 1 => Rect.unit (s := S2x1x128) ![1, 0, 0] S1x1x128.size inb_S2x1x128_S1x1x128_1_0_0

/-- The slots as the copies name them. -/
def wSl : Fin 2 → Memref sig .tc .vmem S4x512x1024 .bf16
  | 0 => (wM.slice (Rect.unit (s := S2x4x512x1024) ![0, 0, 0, 0] S1x4x512x1024.size inb_S2x4x512x1024_S1x4x512x1024_0_0_0_0) (fun _ => rfl)).squeeze
      S4x512x1024 squeezes_S1x4x512x1024_S4x512x1024
  | 1 => (wM.slice (Rect.unit (s := S2x4x512x1024) ![1, 0, 0, 0] S1x4x512x1024.size inb_S2x4x512x1024_S1x4x512x1024_1_0_0_0) (fun _ => rfl)).squeeze
      S4x512x1024 squeezes_S1x4x512x1024_S4x512x1024
def hSl : Fin 2 → Memref sig .tc .vmem S1x128 .i32
  | 0 => (hM.slice (Rect.unit (s := S2x1x128) ![0, 0, 0] S1x1x128.size inb_S2x1x128_S1x1x128_0_0_0) (fun _ => rfl)).squeeze
      S1x128 squeezes_S1x1x128_S1x128
  | 1 => (hM.slice (Rect.unit (s := S2x1x128) ![1, 0, 0] S1x1x128.size inb_S2x1x128_S1x1x128_1_0_0) (fun _ => rfl)).squeeze
      S1x128 squeezes_S1x1x128_S1x128

/-- The credit of one copy of the weights, and of one copy of the counts. -/
def NW : ℕ := (wSl 0).view.dmaCredit
def NH : ℕ := (hSl 0).view.dmaCredit
theorem NW_pos : 0 < NW := View.dmaCredit_pos _ (by decide)
theorem NH_pos : 0 < NH := View.dmaCredit_pos _ (by decide)
theorem wSl_credit (s : Fin 2) : (wSl s).view.dmaCredit = NW := by fin_cases s <;> rfl
theorem hSl_credit (s : Fin 2) : (hSl s).view.dmaCredit = NH := by fin_cases s <;> rfl

variable (WV : Dev nD → Vec F S4x512x1024 .bf16) (HV : Dev nD → Vec F S1x128 .i32)

/-- Slot `s` of device `c` at contents `X`. -/
def wOwn (c : Dev nD) (s : Fin 2) (q : PosShare TreeShare) (X : Vec F S4x512x1024 .bf16) : sProp 𝕄 := owns (c : Thread nD τ) (wSl s) q X
def hOwn (c : Dev nD) (s : Fin 2) (X : Vec F S1x128 .i32) : sProp 𝕄 := owns (c : Thread nD τ) (hSl s) fullShare X

instance wOwn_storable (c : Dev nD) (s q X) : BI.Storable (upEmb : UEmb _ 𝕄) (wOwn (F := F) c s q X) := by unfold wOwn; infer_instance
instance hOwn_storable (c : Dev nD) (s X) : BI.Storable (upEmb : UEmb _ 𝕄) (hOwn (F := F) c s X) := by unfold hOwn; infer_instance

/-! ## The schedule -/

/-- The other slot. -/
abbrev oth (s : Fin 2) : Fin 2 := match s with | 0 => 1 | 1 => 0

/-- How many rounds a sending (receiving) semaphore of slot `s` goes through: slot 0 sends on the sixteen even hops, slot 1
    on the fifteen odd ones; a hop from one slot lands in the other. -/
abbrev sendRounds (s : Fin 2) : ℕ := match s with | 0 => 16 | 1 => 15
abbrev recvRounds (s : Fin 2) : ℕ := sendRounds (oth s)

def dutiesR : Role → ℕ → Finset Bool
  | bar, r => if r = 0 then Finset.univ else ∅
  | cr, r => if r < 31 then {false} else ∅
  | ws s, r | hs s, r => if r < sendRounds s then {false} else ∅
  | wr s, r | hr s, r => if r < recvRounds s then {false} else ∅

def amountR : Role → ℕ
  | bar | cr => 1
  | ws _ | wr _ => NW
  | hs _ | hr _ => NH

theorem amountR_pos (k : Role) : 0 < amountR k := by
  cases k <;> first | exact Nat.one_pos | exact NW_pos | exact NH_pos

/-- The share of a slot handed to the copy that reads it; the other half stays with the device, which multiplies by the
    slot while the copy is in flight. -/
abbrev qS : PosShare TreeShare := fullShare.left
abbrev qK : PosShare TreeShare := fullShare.right

/-- What paying a duty hands the cell's owner `c`. The barrier's unit from before `c`: that device may be given credit. A
    credit: the next device's slot to send into, and that its receiving semaphores have reached the round. A landed copy:
    the slot at its new contents; with the weights, that the sender may be given its next credit. A sent copy: the slot's
    share back. -/
def payR (c : Dev nD) : Role → ℕ → Bool → sProp 𝕄
  | bar, _, d => if d then reached ER (cell (prv c) cr) 0 else iprop(emp)
  | cr, n, _ =>
      iprop((∃ X, wOwn (nxt c) (if n % 2 = 0 then 1 else 0) fullShare X) ∗ (∃ Y, hOwn (nxt c) (if n % 2 = 0 then 1 else 0) Y)
        ∗ reached ER (cell (nxt c) (wr (if n % 2 = 0 then 1 else 0))) (n / 2) ∗ reached ER (cell (nxt c) (hr (if n % 2 = 0 then 1 else 0))) (n / 2))
  | ws s, r, _ => wOwn c s qS (WV (org c (2 * r + s.val)))
  | hs s, r, _ => hOwn c s (HV (org c (2 * r + s.val)))
  | wr s, r, _ => iprop(wOwn c s fullShare (WV (org c (2 * r + (oth s).val + 1))) ∗ reached ER (cell (prv c) cr) (2 * r + (oth s).val + 1))
  | hr s, r, _ => hOwn c s (HV (org c (2 * r + (oth s).val + 1)))

instance payR_storable (c : Dev nD) (k r d) : BI.Storable (upEmb : UEmb _ 𝕄) (payR WV HV c k r d) := by
  rcases k with _ | _ | s | s | s | s <;> unfold payR <;> dsimp only
  · split <;> infer_instance
  all_goals infer_instance

def Rd : Rounds.Schedule (GSem nD τ sig) Bool 𝕄 where
  duties g r := if g.1.2 = .tc then (match roleOf g.2 with | some k => dutiesR k r | none => ∅) else ∅
  unitless _ := False
  amount g _ _ := match roleOf g.2 with | some k => amountR k | none => 1
  payload g r d := match roleOf g.2 with | some k => payR WV HV g.1.1 k r d | none => iprop(emp)
  amount_pos g _ _ _ := by
    split
    · exact amountR_pos _
    · exact Nat.one_pos

instance Rd_storable (g : GSem nD τ sig) (r : ℕ) (d : Bool) : BI.Storable (upEmb : UEmb _ 𝕄) ((Rd WV HV).payload g r d) := by
  show BI.Storable upEmb (match roleOf g.2 with | some k => payR WV HV g.1.1 k r d | none => iprop(emp))
  split <;> infer_instance

section Sched
variable (c : Dev nD) (k : Role) (r : ℕ) (d : Bool)

theorem Rd_duties : (Rd WV HV).duties (cell c k) r = dutiesR k r := by
  dsimp only [Rd]; rw [if_pos rfl, roleOf_semOf]
theorem Rd_amount : (Rd WV HV).amount (cell c k) r d = amountR k := by
  dsimp only [Rd]; rw [roleOf_semOf]
theorem Rd_payload : (Rd WV HV).payload (cell c k) r d = payR WV HV c k r d := by
  dsimp only [Rd]; rw [roleOf_semOf]

/-- A round with the one duty `false`: the units it brings, and the payload. -/
theorem expect_one (h : dutiesR k r = {false}) : (Rd WV HV).expect (cell c k) r = amountR k := by
  unfold Schedule.expect Schedule.amountOf
  rw [Rd_duties, h, Finset.sum_singleton, Rd_amount]
theorem rest_one (h : dutiesR k r = {false}) :
    bigSep ((Rd WV HV).duties (cell c k) r \ ∅) (fun d => (Rd WV HV).payload (cell c k) r d) = payR WV HV c k r false := by
  rw [Finset.sdiff_empty, Rd_duties, h, bigSep_singleton, Rd_payload]
theorem expect_bar : (Rd WV HV).expect (cell c bar) 0 = 2 := by
  unfold Schedule.expect Schedule.amountOf
  rw [Rd_duties, Finset.sum_congr rfl fun d _ => Rd_amount WV HV c bar 0 d]
  rfl
theorem rest_bar : bigSep ((Rd WV HV).duties (cell c bar) 0 \ ∅) (fun d => (Rd WV HV).payload (cell c bar) 0 d)
    = iprop(emp ∗ reached ER (cell (prv c) cr) 0) := by
  rw [Finset.sdiff_empty, Rd_duties, show dutiesR bar 0 = Finset.univ from rfl,
    bigSep_univ_eq_bigSepL [false, true] (by decide) (by decide), bigSepL_cons_cons, bigSepL_singleton, Rd_payload, Rd_payload]
  rfl

/-- After its last round a cell has no duty. -/
def lastRound : Role → ℕ
  | bar => 1
  | cr => 31
  | ws s | hs s => sendRounds s
  | wr s | hr s => recvRounds s
theorem dutiesR_later (r : ℕ) (h : lastRound k ≤ r) : dutiesR k r = ∅ := by
  cases k <;> simp only [lastRound, dutiesR] at h ⊢ <;> exact if_neg (by omega)

end Sched

/-! ## Hops

Hop `h` sends slot `s` into slot `oth s` of the next device, `h = 2 r + s`: round `r` of the four semaphores. -/

theorem one_s {s : Fin 2} {r : ℕ} (h : 2 * r + s.val < 31) : r < sendRounds s := by
  fin_cases s <;> simp [sendRounds] at h ⊢ <;> omega
theorem oth_oth (s : Fin 2) : oth (oth s) = s := by fin_cases s <;> rfl

theorem duties_ws {s : Fin 2} {r : ℕ} (h : 2 * r + s.val < 31) : dutiesR (ws s) r = {false} := if_pos (one_s h)
theorem duties_hs {s : Fin 2} {r : ℕ} (h : 2 * r + s.val < 31) : dutiesR (hs s) r = {false} := if_pos (one_s h)
theorem duties_wr {s : Fin 2} {r : ℕ} (h : 2 * r + s.val < 31) : dutiesR (wr (oth s)) r = {false} :=
  if_pos (by rw [recvRounds, oth_oth]; exact one_s h)
theorem duties_hr {s : Fin 2} {r : ℕ} (h : 2 * r + s.val < 31) : dutiesR (hr (oth s)) r = {false} :=
  if_pos (by rw [recvRounds, oth_oth]; exact one_s h)
theorem duties_cr {n : ℕ} (h : n < 31) : dutiesR cr n = {false} := if_pos h

theorem slot_of {s : Fin 2} (r : ℕ) : (if (2 * r + s.val) % 2 = 0 then (1 : Fin 2) else 0) = oth s := by
  fin_cases s
  · exact if_pos (by simp)
  · exact if_neg (by simp)
theorem half_of (s : Fin 2) (r : ℕ) : (2 * r + s.val) / 2 = r := by have := s.isLt; omega

/-- What the credit for hop `2 r + s` hands over, by slot and round. -/
theorem payR_cr (c : Dev nD) (s : Fin 2) (r : ℕ) (d : Bool) : payR WV HV c cr (2 * r + s.val) d
    = iprop((∃ X, wOwn (nxt c) (oth s) fullShare X) ∗ (∃ Y, hOwn (nxt c) (oth s) Y)
        ∗ reached ER (cell (nxt c) (wr (oth s))) r ∗ reached ER (cell (nxt c) (hr (oth s))) r) := by
  dsimp only [payR]; rw [slot_of, half_of]

/-! ## What a device owes -/

/-- Slot and round of hop `h`. -/
abbrev sl (h : ℕ) : Fin 2 := if h % 2 = 0 then 0 else 1

/-- Still to be landed in the next device's slots from hop `h` on: weights, counts; still to be given to the device before:
    credits from the `n`-th on. -/
def OW (c : Dev nD) (h : ℕ) : CellTallies nD τ sig ℕ := ∑ j ∈ Finset.Ico h 31, tallyAt (cell (nxt c) (wr (oth (sl j)))) (j / 2) NW
def OH (c : Dev nD) (h : ℕ) : CellTallies nD τ sig ℕ := ∑ j ∈ Finset.Ico h 31, tallyAt (cell (nxt c) (hr (oth (sl j)))) (j / 2) NH
def OC (c : Dev nD) (n : ℕ) : CellTallies nD τ sig ℕ := ∑ j ∈ Finset.Ico n 31, tallyAt (cell (prv c) cr) j 1

/-- All it owes at launch: that and the two barrier units. -/
def O₁ (c : Dev nD) : CellTallies nD τ sig ℕ := OW c 0 + OH c 0 + OC c 0
def O₀ (c : Dev nD) : CellTallies nD τ sig ℕ := O₁ c + tallyAt (cell (nxt c) bar) 0 1 + tallyAt (cell (prv c) bar) 0 1

theorem sl_eq (s : Fin 2) (r : ℕ) : sl (2 * r + s.val) = s := by
  fin_cases s
  · exact if_pos (by simp)
  · exact if_neg (by simp)

theorem sum_peel {M : Type} [AddCommMonoid M] (f : ℕ → M) {a b : ℕ} (h : a < b) :
    ∑ j ∈ Finset.Ico a b, f j = ∑ j ∈ Finset.Ico (a + 1) b, f j + f a := by
  rw [show Finset.Ico a b = insert a (Finset.Ico (a + 1) b) from by ext x; simp only [Finset.mem_insert, Finset.mem_Ico]; omega,
    Finset.sum_insert (by simp), add_comm]

theorem OW_peel (c : Dev nD) (s : Fin 2) (r : ℕ) (h : 2 * r + s.val < 31) :
    OW c (2 * r + s.val) = OW c (2 * r + s.val + 1) + tallyAt (cell (nxt c) (wr (oth s))) r NW := by
  unfold OW; rw [sum_peel _ h, sl_eq, half_of]
theorem OH_peel (c : Dev nD) (s : Fin 2) (r : ℕ) (h : 2 * r + s.val < 31) :
    OH c (2 * r + s.val) = OH c (2 * r + s.val + 1) + tallyAt (cell (nxt c) (hr (oth s))) r NH := by
  unfold OH; rw [sum_peel _ h, sl_eq, half_of]
theorem OC_peel (c : Dev nD) (n : ℕ) (h : n < 31) : OC c n = OC c (n + 1) + tallyAt (cell (prv c) cr) n 1 := by
  unfold OC; rw [sum_peel _ h]
theorem OW_end (c : Dev nD) : OW c 31 = 0 := by unfold OW; rw [Finset.Ico_self, Finset.sum_empty]
theorem OH_end (c : Dev nD) : OH c 31 = 0 := by unfold OH; rw [Finset.Ico_self, Finset.sum_empty]
theorem OC_end (c : Dev nD) : OC c 31 = 0 := by unfold OC; rw [Finset.Ico_self, Finset.sum_empty]

/-! ## Levels -/

def L (g : GSem nD τ sig) : Finset ℕ := if g.1.2 = .tc then Finset.range 32 else ∅
/-- The credit for hop `h` at `2 h + 2`, hop `h`'s landing at `2 h + 3`, the barrier at 1, all else at 0. -/
def lvR : Role → ℕ → ℕ
  | bar, _ => 1
  | cr, n => 2 * n + 2
  | wr s, r | hr s, r => 2 * (2 * r + (oth s).val) + 3
  | ws _, _ | hs _, _ => 0
def lv (g : GSem nD τ sig) (i : ℕ) : ℕ := match roleOf g.2 with | some k => lvR k i | none => 0

theorem L_of_ne (g : GSem nD τ sig) (h : g.1.2 ≠ .tc) : L g = ∅ := if_neg h
theorem mem_L (c : Dev nD) (sm : SemLoc sig) {i : ℕ} (h : i < 32) : i ∈ L ((c : Thread nD τ), sm) := by
  unfold L; rw [if_pos rfl]; exact Finset.mem_range.mpr h
theorem lv_cell (c : Dev nD) (k : Role) (i : ℕ) : lv (cell c k) i = lvR k i := by
  unfold lv; rw [roleOf_semOf]

theorem tally_pos {g g' : GSem nD τ sig} {i i' n : ℕ} (h : 0 < (tallyAt g i n : CellTallies nD τ sig ℕ) g' i') : g' = g ∧ i' = i := by
  rw [tallyAt_apply] at h
  by_contra hn
  rw [if_neg hn] at h
  exact Nat.lt_irrefl 0 h

/-- A positive owed amount is on a cell at an index of its own, at level at least the least of the three sums'. -/
theorem sum_pos {S : Finset ℕ} {f : ℕ → CellTallies nD τ sig ℕ} {g : GSem nD τ sig} {i : ℕ} (h : 0 < (∑ j ∈ S, f j) g i) :
    ∃ j ∈ S, 0 < f j g i := by
  induction S using Finset.induction_on with
  | empty => exact absurd h (Nat.lt_irrefl 0)
  | insert a S ha ih =>
    rw [Finset.sum_insert ha, Pi.add_apply, Finsupp.add_apply] at h
    rcases Nat.eq_zero_or_pos (f a g i) with h0 | h0
    · rw [h0, Nat.zero_add] at h
      obtain ⟨j, hj, h'⟩ := ih h
      exact ⟨j, Finset.mem_insert_of_mem hj, h'⟩
    · exact ⟨a, Finset.mem_insert_self _ _, h0⟩

theorem lvl_hop (j : ℕ) : 2 * (2 * (j / 2) + (oth (oth (sl j))).val) + 3 = 2 * j + 3 := by
  rw [oth_oth]; unfold sl; split <;> simp <;> omega

theorem OW_pos {c : Dev nD} {h : ℕ} {g : GSem nD τ sig} {i : ℕ} (hp : 0 < OW c h g i) : i ∈ L g ∧ 2 * h + 3 ≤ lv g i := by
  obtain ⟨j, hj, hp⟩ := sum_pos hp
  obtain ⟨rfl, rfl⟩ := tally_pos hp
  rw [Finset.mem_Ico] at hj
  refine ⟨mem_L _ _ (by omega), ?_⟩
  rw [lv_cell]; show _ ≤ 2 * (2 * (j / 2) + (oth (oth (sl j))).val) + 3; rw [lvl_hop]; omega
theorem OH_pos {c : Dev nD} {h : ℕ} {g : GSem nD τ sig} {i : ℕ} (hp : 0 < OH c h g i) : i ∈ L g ∧ 2 * h + 3 ≤ lv g i := by
  obtain ⟨j, hj, hp⟩ := sum_pos hp
  obtain ⟨rfl, rfl⟩ := tally_pos hp
  rw [Finset.mem_Ico] at hj
  refine ⟨mem_L _ _ (by omega), ?_⟩
  rw [lv_cell]; show _ ≤ 2 * (2 * (j / 2) + (oth (oth (sl j))).val) + 3; rw [lvl_hop]; omega
theorem OC_pos {c : Dev nD} {n : ℕ} {g : GSem nD τ sig} {i : ℕ} (hp : 0 < OC c n g i) : i ∈ L g ∧ 2 * n + 2 ≤ lv g i := by
  obtain ⟨j, hj, hp⟩ := sum_pos hp
  obtain ⟨rfl, rfl⟩ := tally_pos hp
  rw [Finset.mem_Ico] at hj
  refine ⟨mem_L _ _ (by omega), ?_⟩
  rw [lv_cell]; show _ ≤ 2 * i + 2; omega

theorem add3_pos {A B C : CellTallies nD τ sig ℕ} {g : GSem nD τ sig} {i : ℕ} (h : 0 < (A + B + C) g i) : 0 < A g i ∨ 0 < B g i ∨ 0 < C g i := by
  rw [Pi.add_apply, Finsupp.add_apply, Pi.add_apply, Finsupp.add_apply] at h
  omega

/-- A wait below everything still owed on the ring. -/
theorem mayWait (c : Dev nD) (sm : SemLoc sig) (i a b d : ℕ) (hi : i < 32) (ha : lv ((c : Thread nD τ), sm) i < 2 * a + 3)
    (hb : lv ((c : Thread nD τ), sm) i < 2 * b + 3) (hd : lv ((c : Thread nD τ), sm) i < 2 * d + 2) :
    (levAts L lv : sProp 𝕄) ⊢ MayWait (c : Thread nD τ) sm i (OW c a + OH c b + OC c d) :=
  MayOwe.of_cut (L := L) (lev := lv) (lv ((c : Thread nD τ), sm) i) (fun p hp => by rw [Finset.mem_singleton.mp hp]; exact mem_L c sm hi)
    (fun g u hg => by
      rcases add3_pos hg with h | h | h
      · exact (OW_pos h).1
      · exact (OH_pos h).1
      · exact (OC_pos h).1)
    (fun p hp => by rw [Finset.mem_singleton.mp hp])
    (fun g u hg => by
      rcases add3_pos hg with h | h | h
      · have := (OW_pos h).2; omega
      · have := (OH_pos h).2; omega
      · have := (OC_pos h).2; omega)

/-- What is owed at launch is all above level 0. -/
theorem O₀_pos {c : Dev nD} {g : GSem nD τ sig} {i : ℕ} (h : 0 < O₀ c g i) : i ∈ L g ∧ 0 < lv g i := by
  unfold O₀ O₁ at h
  rcases add3_pos h with h | h | h
  · rcases add3_pos h with h | h | h
    · have := OW_pos h; exact ⟨this.1, by omega⟩
    · have := OH_pos h; exact ⟨this.1, by omega⟩
    · have := OC_pos h; exact ⟨this.1, by omega⟩
  · obtain ⟨rfl, rfl⟩ := tally_pos h; exact ⟨mem_L _ _ (by decide), by rw [lv_cell]; exact Nat.one_pos⟩
  · obtain ⟨rfl, rfl⟩ := tally_pos h; exact ⟨mem_L _ _ (by decide), by rw [lv_cell]; exact Nat.one_pos⟩

end Cert.Moe
-- ==== Proof.Hop.lean ====
/-
# One hop, operation by operation

What each communication of a hop needs and what it leaves: the wait for the credit, the two copies, the four waits, the
credit for the device before. And the plain accesses: a load or a store of a whole buffer or of a slot.
-/
module

public import proofs.«01_k».proof.Proof.Ring
public import Idealize.ShloMosaic.Lib.VecWindow
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role

variable {F : FTy → Type} [FloatOps F]

local notation "𝕄" => MT nD τ sig ℕ (Elt F) ℕ UU ℕ

variable (WV : Dev nD → Vec F S4x512x1024 .bf16) (HV : Dev nD → Vec F S1x128 .i32)

/-! ## The cells of all devices -/

/-- The parts played by scoped semaphores. -/
def sc : Fin 9 → Role := ![cr, ws 0, ws 1, wr 0, wr 1, hs 0, hs 1, hr 0, hr 1]
theorem sc_inj : Function.Injective sc := by decide

def barEmb : Dev nD ↪ GSem nD τ sig := ⟨fun c => cell c bar, fun a b h => congrArg (fun g : GSem nD τ sig => g.1.1) h⟩
def scEmb : Dev nD × Fin 9 ↪ GSem nD τ sig :=
  ⟨fun p => cell p.1 (sc p.2), fun a b h => Prod.ext (congrArg (fun g : GSem nD τ sig => g.1.1) h)
    (sc_inj (semOf_inj (congrArg (fun g : GSem nD τ sig => g.2) h)))⟩
def barCells : Finset (GSem nD τ sig) := Finset.univ.map barEmb
def scCells : Finset (GSem nD τ sig) := Finset.univ.map scEmb

theorem mem_sc (k : Role) (h : k ≠ bar) : ∃ i, sc i = k := by
  rcases k with _ | _ | s | s | s | s
  · exact absurd rfl h
  · exact ⟨0, rfl⟩
  · fin_cases s; exacts [⟨1, rfl⟩, ⟨2, rfl⟩]
  · fin_cases s; exacts [⟨3, rfl⟩, ⟨4, rfl⟩]
  · fin_cases s; exacts [⟨5, rfl⟩, ⟨6, rfl⟩]
  · fin_cases s; exacts [⟨7, rfl⟩, ⟨8, rfl⟩]

theorem mem_cells (c : Dev nD) (k : Role) : cell c k ∈ barCells ∪ scCells := by
  by_cases h : k = bar
  · subst h; exact Finset.mem_union_left _ (Finset.mem_map.mpr ⟨c, Finset.mem_univ _, rfl⟩)
  · obtain ⟨i, rfl⟩ := mem_sc k h
    exact Finset.mem_union_right _ (Finset.mem_map.mpr ⟨(c, i), Finset.mem_univ _, rfl⟩)

/-- Every cell's invariant, under the names `κ`. -/
def invs (κ : GSem nD τ sig → ℕ) : sProp 𝕄 := bigSep (barCells ∪ scCells) fun g => cellInv ER (Rd WV HV) (κ g) g
instance invs_persistent (κ : GSem nD τ sig → ℕ) : Persistent (invs WV HV κ) := by unfold invs; infer_instance
theorem invs_get (κ : GSem nD τ sig → ℕ) (c : Dev nD) (k : Role) :
    invs WV HV κ ⊢ cellInv ER (Rd WV HV) (κ (cell c k)) (cell c k) := bigSep_elim (mem_cells c k)

/-- What is known everywhere: the invariants and the levels. -/
def env (κ : GSem nD τ sig → ℕ) : sProp 𝕄 := iprop(invs WV HV κ ∗ levAts L lv)
instance env_persistent (κ : GSem nD τ sig → ℕ) : Persistent (env WV HV κ) := by unfold env; infer_instance

/-- A device owes the landings from hops `a`, `b` on and the credits from `d` on, whatever it has waited for. -/
def ow (c : Dev nD) (a b d : ℕ) : sProp 𝕄 := iprop(∃ W, owes (c : Thread nD τ) (OW c a + OH c b + OC c d) W)

section Ops

variable (κ : GSem nD τ sig → ℕ) (c : Dev nD)

/-! ## The two copies -/

theorem send_w (s : Fin 2) (r : ℕ) (hh : 2 * r + s.val < 31) (b d : ℕ) {n : Dev nD} (hn : n = nxt c)
    {src dst : Memref sig .tc .vmem S4x512x1024 .bf16} (hs : src = wSl s) (hd : dst = wSl (oth s))
    {sS sR : SemLoc sig} (hsS : sS = semOf (ws s)) (hsR : sR = semOf (wr (oth s)))
    {hsc : dst.view.ref.isScScratch = false} {hsrc : src.view.WordExact} {hdst : dst.view.WordExact}
    {hsem : DmaTarget.Typed .vmem sR (.remote (Dev.tc (τ := τ) n) dst sS hsc)}
    {α : Type} {Q : α → sProp 𝕄} {k : PUnit → Prog (TpuEff nD τ sig (Elt F) Λ₀ .tc) α} :
    iprop(env WV HV κ ∗ wOwn c s qS (WV (org c (2 * r + s.val))) ∗ (∃ X, wOwn (nxt c) (oth s) fullShare X)
        ∗ reached ER (cell c cr) (2 * r + s.val + 1) ∗ ow c (2 * r + s.val) b d
        ∗ dutyTok ER (cell c (ws s)) r false ∗ reached ER (cell c (ws s)) r
        ∗ dutyTok ER (cell (nxt c) (wr (oth s))) r false ∗ reached ER (cell (nxt c) (wr (oth s))) r)
      ⊢ iprop(((cred (tallyAt (cell c (ws s)) 0 NW) ∗ ow c (2 * r + s.val + 1) b d)
            -∗ wp frame (wpE (defs₀ (F := F)) Variants.none (c : Thread nD τ) none) Set.univ (k ⟨⟩) Q)
          -∗ wp frame (wpE (defs₀ (F := F)) Variants.none (c : Thread nD τ) none) Set.univ
            (.op (.enqueueDma src (.remote (Dev.tc n) dst sS hsc) sR hsrc hdst hsem) k) Q) := by
  subst hn hs hd hsS hsR
  unfold env ow wOwn owns
  iintro ⟨⟨#Hi, #Hl⟩, ⟨%fs, %hfs, Hs⟩, ⟨%X, %fd, -, Hd⟩, #Hcr, ⟨%W, HO⟩, Ht₁, #Hr₁, Ht₂, #Hr₂⟩ Hk
  ihave #Hi₁ := (invs_get WV HV κ c (ws s)) $$ Hi
  ihave #Hi₂ := (invs_get WV HV κ (nxt c) (wr (oth s))) $$ Hi
  have hO : OW c (2 * r + s.val) + OH c b + OC c d
      = OW c (2 * r + s.val + 1) + OH c b + OC c d + tallyAt (cell (nxt c) (wr (oth s))) r NW := by
    rw [OW_peel c s r hh, add_right_comm (OW c _) (tallyAt _ _ _), add_right_comm _ (tallyAt _ _ _)]
  have hN : (wSl (oth s)).view.amount (semOf (wr (oth s))) = NW := by
    have : ∃ i, semOf (wr (oth s)) = SemLoc.dma i := by fin_cases s <;> exact ⟨_, rfl⟩
    obtain ⟨i, hi⟩ := this
    rw [hi]; exact wSl_credit _
  have hp₁ : ((wSl s).view.loc (c : Thread nD τ) ↦[(wSl s).view.set]{qS} fs : sProp 𝕄)
      ⊢ (Rd WV HV).payload (cell c (ws s)) r false := by
    rw [Rd_payload]; show _ ⊢ wOwn c s qS _
    unfold wOwn owns
    iintro H; iexists fs; isplitr
    · ipureintro; exact hfs
    · iexact H
  have hp₂ : iprop(((wSl (oth s)).view.loc ((nxt c : Dev nD) : Thread nD τ) ↦[(wSl (oth s)).view.set]{fullShare}
        ((wSl (oth s)).view.write (Elt F) fd ((wSl s).view.read (Elt F) fs) Finset.univ)) ∗ reached ER (cell c cr) (2 * r + s.val + 1))
      ⊢ (Rd WV HV).payload (cell (nxt c) (wr (oth s))) r false := by
    rw [Rd_payload]
    show _ ⊢ iprop(wOwn (nxt c) (oth s) fullShare _ ∗ reached ER (cell (prv (nxt c)) cr) _)
    rw [oth_oth, org_nxt, prv_nxt]
    unfold wOwn owns
    iintro ⟨H, Hr⟩
    isplitl [H]
    · iexists ((wSl (oth s)).view.write (Elt F) fd ((wSl s).view.read (Elt F) fs) Finset.univ); isplitr
      · ipureintro; rw [View.read_write_univ]; exact hfs
      · iexact H
    · iexact Hr
  have key := Rounds.wp_send_pointsTo_with (Q := Q) (k := k) (defs := defs₀ (F := F)) (Γ := .empty) Variants.none ER (Rd WV HV) (c : Thread nD τ) none (c' := ((nxt c : Dev nD) : Thread nD τ))
      (src := wSl s) (dst := wSl (oth s)) (hsc := hsc) (hsrc := hsrc) (hdst := hdst) (hsem := hsem) (Es := Set.univ) (W := W)
      (fs := fs) (fd := fd) (q := qS) (κ₁ := κ (cell c (ws s))) (κ₂ := κ (cell (nxt c) (wr (oth s))))
      (sS := semOf (ws s)) (sem := semOf (wr (oth s)))
      (r₁ := r) (r₂ := r) (d₁ := false) (d₂ := false)
      (by show false ∈ (Rd WV HV).duties (cell c (ws s)) r; rw [Rd_duties, duties_ws hh]; exact Finset.mem_singleton_self _)
      (by show false ∈ (Rd WV HV).duties (cell (nxt c) (wr (oth s))) r; rw [Rd_duties, duties_wr hh]; exact Finset.mem_singleton_self _)
      r 0 NW hN (Rd_amount WV HV c (ws s) r false) (Rd_amount WV HV (nxt c) (wr (oth s)) r false)
      (OW c (2 * r + s.val + 1) + OH c b + OC c d) hO hp₁ hp₂ (by routes)
  iapply key $$ [Hs Hd HO Ht₁ Ht₂]
  · isplitl []; · iexact Hi₁
    isplitl []; · iexact Hi₂
    isplitl [Hs]; · iexact Hs
    isplitl [Hd]
    · isplitl [Hd]; · iexact Hd
      iexact Hcr
    isplitl [HO]; · iexact HO
    isplitl [Ht₁]; · iexact Ht₁
    isplitl []; · iexact Hr₁
    isplitl [Ht₂]; · iexact Ht₂
    iexact Hr₂
  iintro ⟨Hc, HO⟩
  iapply Hk
  isplitl [Hc]; · iexact Hc
  iexists W; iexact HO

theorem send_h (s : Fin 2) (r : ℕ) (hh : 2 * r + s.val < 31) (a d : ℕ) {n : Dev nD} (hn : n = nxt c)
    {src dst : Memref sig .tc .vmem S1x128 .i32} (hs : src = hSl s) (hd : dst = hSl (oth s))
    {sS sR : SemLoc sig} (hsS : sS = semOf (Role.hs s)) (hsR : sR = semOf (hr (oth s)))
    {hsc : dst.view.ref.isScScratch = false} {hsrc : src.view.WordExact} {hdst : dst.view.WordExact}
    {hsem : DmaTarget.Typed .vmem sR (.remote (Dev.tc (τ := τ) n) dst sS hsc)}
    {α : Type} {Q : α → sProp 𝕄} {k : PUnit → Prog (TpuEff nD τ sig (Elt F) Λ₀ .tc) α} :
    iprop(env WV HV κ ∗ hOwn c s (HV (org c (2 * r + s.val))) ∗ (∃ X, hOwn (nxt c) (oth s) X)
        ∗ ow c a (2 * r + s.val) d
        ∗ dutyTok ER (cell c (Role.hs s)) r false ∗ reached ER (cell c (Role.hs s)) r
        ∗ dutyTok ER (cell (nxt c) (hr (oth s))) r false ∗ reached ER (cell (nxt c) (hr (oth s))) r)
      ⊢ iprop(((cred (tallyAt (cell c (Role.hs s)) 0 NH) ∗ ow c a (2 * r + s.val + 1) d)
            -∗ wp frame (wpE (defs₀ (F := F)) Variants.none (c : Thread nD τ) none) Set.univ (k ⟨⟩) Q)
          -∗ wp frame (wpE (defs₀ (F := F)) Variants.none (c : Thread nD τ) none) Set.univ
            (.op (.enqueueDma src (.remote (Dev.tc n) dst sS hsc) sR hsrc hdst hsem) k) Q) := by
  subst hn hs hd hsS hsR
  unfold env ow hOwn owns
  iintro ⟨⟨#Hi, #Hl⟩, ⟨%fs, %hfs, Hs⟩, ⟨%X, %fd, -, Hd⟩, ⟨%W, HO⟩, Ht₁, #Hr₁, Ht₂, #Hr₂⟩ Hk
  ihave #Hi₁ := (invs_get WV HV κ c (Role.hs s)) $$ Hi
  ihave #Hi₂ := (invs_get WV HV κ (nxt c) (hr (oth s))) $$ Hi
  have hO : OW c a + OH c (2 * r + s.val) + OC c d
      = OW c a + OH c (2 * r + s.val + 1) + OC c d + tallyAt (cell (nxt c) (hr (oth s))) r NH := by
    rw [OH_peel c s r hh, ← add_assoc, add_right_comm _ (tallyAt _ _ _)]
  have hN : (hSl (oth s)).view.amount (semOf (hr (oth s))) = NH := by
    have : ∃ i, semOf (hr (oth s)) = SemLoc.dma i := by fin_cases s <;> exact ⟨_, rfl⟩
    obtain ⟨i, hi⟩ := this
    rw [hi]; exact hSl_credit _
  have hp₁ : ((hSl s).view.loc (c : Thread nD τ) ↦[(hSl s).view.set]{fullShare} fs : sProp 𝕄)
      ⊢ (Rd WV HV).payload (cell c (Role.hs s)) r false := by
    rw [Rd_payload]; show _ ⊢ hOwn c s _
    unfold hOwn owns
    iintro H; iexists fs; isplitr
    · ipureintro; exact hfs
    · iexact H
  have hp₂ : ((hSl (oth s)).view.loc ((nxt c : Dev nD) : Thread nD τ) ↦[(hSl (oth s)).view.set]{fullShare}
        ((hSl (oth s)).view.write (Elt F) fd ((hSl s).view.read (Elt F) fs) Finset.univ) : sProp 𝕄)
      ⊢ (Rd WV HV).payload (cell (nxt c) (hr (oth s))) r false := by
    rw [Rd_payload]
    show _ ⊢ hOwn (nxt c) (oth s) _
    rw [oth_oth, org_nxt]
    unfold hOwn owns
    iintro H
    iexists ((hSl (oth s)).view.write (Elt F) fd ((hSl s).view.read (Elt F) fs) Finset.univ); isplitr
    · ipureintro; rw [View.read_write_univ]; exact hfs
    · iexact H
  have key := Rounds.wp_send_pointsTo (Q := Q) (k := k) (defs := defs₀ (F := F)) (Γ := .empty) Variants.none ER (Rd WV HV) (c : Thread nD τ) none (c' := ((nxt c : Dev nD) : Thread nD τ))
      (src := hSl s) (dst := hSl (oth s)) (hsc := hsc) (hsrc := hsrc) (hdst := hdst) (hsem := hsem) (Es := Set.univ) (W := W)
      (fs := fs) (fd := fd) (q := fullShare) (κ₁ := κ (cell c (Role.hs s))) (κ₂ := κ (cell (nxt c) (hr (oth s))))
      (sS := semOf (Role.hs s)) (sem := semOf (hr (oth s)))
      (r₁ := r) (r₂ := r) (d₁ := false) (d₂ := false)
      (by show false ∈ (Rd WV HV).duties (cell c (Role.hs s)) r; rw [Rd_duties, duties_hs hh]; exact Finset.mem_singleton_self _)
      (by show false ∈ (Rd WV HV).duties (cell (nxt c) (hr (oth s))) r; rw [Rd_duties, duties_hr hh]; exact Finset.mem_singleton_self _)
      r 0 NH hN (Rd_amount WV HV c (Role.hs s) r false) (Rd_amount WV HV (nxt c) (hr (oth s)) r false)
      (OW c a + OH c (2 * r + s.val + 1) + OC c d) hO hp₁ hp₂ (by routes)
  iapply key $$ [Hs Hd HO Ht₁ Ht₂]
  · isplitl []; · iexact Hi₁
    isplitl []; · iexact Hi₂
    isplitl [Hs]; · iexact Hs
    isplitl [Hd]; · iexact Hd
    isplitl [HO]; · iexact HO
    isplitl [Ht₁]; · iexact Ht₁
    isplitl []; · iexact Hr₁
    isplitl [Ht₂]; · iexact Ht₂
    iexact Hr₂
  iintro ⟨Hc, HO⟩
  iapply Hk
  isplitl [Hc]; · iexact Hc
  iexists W; iexact HO

/-! ## The waits -/

theorem wait_one (kk : Role) (r i a b d : ℕ) (hd : dutiesR kk r = {false}) (hi : i < 32)
    (ha : lvR kk i < 2 * a + 3) (hb : lvR kk i < 2 * b + 3) (hc : lvR kk i < 2 * d + 2)
    {w : TpuEff nD τ sig (Elt F) Λ₀ .tc PUnit}
    (hw : ∀ K : PUnit → sProp 𝕄, wpE (defs₀ (F := F)) Variants.none (c : Thread nD τ) none Set.univ w K
      = waitSpec (c : Thread nD τ) Set.univ (semOf kk) (amountR kk) K)
    {α : Type} {Q : α → sProp 𝕄} {k : PUnit → Prog (TpuEff nD τ sig (Elt F) Λ₀ .tc) α} :
    iprop(env WV HV κ ∗ cred (tallyAt (cell c kk) i (amountR kk)) ∗ ow c a b d ∗ atPos ER (cell c kk) r ∅ 0)
      ⊢ iprop(((ow c a b d ∗ atPos ER (cell c kk) (r + 1) ∅ 0 ∗ reached ER (cell c kk) (r + 1) ∗ payR WV HV c kk r false)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  unfold env ow
  iintro ⟨⟨#Hi, #Hl⟩, Hc, ⟨%W, HO⟩, Hp⟩ Hk
  ihave #Hi₁ := (invs_get WV HV κ c kk) $$ Hi
  ihave Hm := (mayWait (F := F) c (semOf kk) i a b d hi (by rw [lv_cell]; exact ha) (by rw [lv_cell]; exact hb) (by rw [lv_cell]; exact hc)) $$ Hl
  iapply (Rounds.wp_wait_rest_token Variants.none ER (Rd WV HV) (c : Thread nD τ) none (κ := κ (cell c kk)) hw (Set.mem_univ _) i
      (R := r) (m := 0) (T := ∅) (by rw [Nat.zero_add]; exact (expect_one WV HV c kk r hd).symm)) $$ [Hc HO Hm Hp]
  · isplitl []; · iexact Hi₁
    isplitl [Hc]; · iexact Hc
    isplitl [HO]; · iexact HO
    isplitl [Hm]; · iexact Hm
    iexact Hp
  iintro ⟨HO, Hp, Hr, Hpay⟩
  iapply Hk
  isplitl [HO]; · iexists _; iexact HO
  isplitl [Hp]; · iexact Hp
  isplitl [Hr]; · iexact Hr
  iapply (Entails.of_eq (rest_one WV HV c kk r hd)) $$ Hpay

/-! ## The credit for the device before -/

theorem signal_cr (s : Fin 2) (r : ℕ) (hh : 2 * r + s.val < 31) (a b : ℕ) {n : Dev nD} (hn : n = prv c)
    {α : Type} {Q : α → sProp 𝕄} {k : PUnit → Prog (TpuEff nD τ sig (Elt F) Λ₀ .tc) α} {sm : Sem sig} (hsm : SemLoc.reg sm = semOf cr) :
    iprop(env WV HV κ ∗ (∃ X, wOwn c (oth s) fullShare X) ∗ (∃ Y, hOwn c (oth s) Y)
        ∗ reached ER (cell c (wr (oth s))) r ∗ reached ER (cell c (hr (oth s))) r
        ∗ ow c a b (2 * r + s.val)
        ∗ dutyTok ER (cell (prv c) cr) (2 * r + s.val) false ∗ reached ER (cell (prv c) cr) (2 * r + s.val))
      ⊢ iprop((ow c a b (2 * r + s.val + 1)
            -∗ wp frame (wpE (defs₀ (F := F)) Variants.none (c : Thread nD τ) none) Set.univ (k ⟨⟩) Q)
          -∗ wp frame (wpE (defs₀ (F := F)) Variants.none (c : Thread nD τ) none) Set.univ
            (.op (.semSignal (Dev.tc n) sm 1) k) Q) := by
  subst hn
  obtain rfl : sm = (0 : Sem sig) := by injection hsm
  unfold env ow
  iintro ⟨⟨#Hi, #Hl⟩, Hw, Hh, #Hr₁, #Hr₂, ⟨%W, HO⟩, Ht, #Hr⟩ Hk
  ihave #Hi₁ := (invs_get WV HV κ (prv c) cr) $$ Hi
  have hO : OW c a + OH c b + OC c (2 * r + s.val)
      = OW c a + OH c b + OC c (2 * r + s.val + 1) + tallyAt (cell (prv c) cr) (2 * r + s.val) 1 := by
    rw [OC_peel c _ hh, ← add_assoc]
  iapply (Rounds.wp_signal Variants.none ER (Rd WV HV) (c : Thread nD τ) none (dst := ((prv c : Dev nD) : Thread nD τ))
      (sem := (0 : Sem sig)) (r := 2 * r + s.val) (d := false) (κ := κ (cell (prv c) cr))
      (by show false ∈ (Rd WV HV).duties (cell (prv c) cr) _; rw [Rd_duties, duties_cr hh]; exact Finset.mem_singleton_self _)
      (Rd_amount WV HV (prv c) cr _ false) (2 * r + s.val) (OW c a + OH c b + OC c (2 * r + s.val + 1)) hO) $$ [Hw Hh HO Ht]
  · isplitl []; · iexact Hi₁
    isplitl [HO]; · iexact HO
    isplitl [Ht]; · iexact Ht
    isplitl [Hw Hh]
    · rw [show (Rd WV HV).payload (((prv c : Dev nD) : Thread nD τ), SemLoc.reg (0 : Sem sig)) (2 * r + s.val) false = _ from
        (Rd_payload WV HV (prv c) cr _ false).trans (payR_cr WV HV (prv c) s r false), nxt_prv]
      isplitl [Hw]; · iexact Hw
      isplitl [Hh]; · iexact Hh
      isplitl []; · iexact Hr₁
      iexact Hr₂
    iexact Hr
  iintro HO
  iapply Hk
  iexists W; iexact HO

/-! ## Halves of a slot -/

theorem owns_half (t : Thread nD τ) {sh : Shape} {e : EltTy} (m : Memref sig t.2.kind .vmem sh e) (X : sh.Idx → Elt F e) :
    (owns t m fullShare X : sProp 𝕄) ⊢ iprop(owns t m qS X ∗ owns t m qK X) := by
  unfold owns
  iintro ⟨%f, %hf, H⟩
  ihave H := (pointsTo_share (PosShare.mem_left_op_right fullShare)).1 $$ H
  icases H with ⟨H₁, H₂⟩
  isplitl [H₁]
  · iexists f; isplitr; · ipureintro; exact hf
    iexact H₁
  · iexists f; isplitr; · ipureintro; exact hf
    iexact H₂

theorem owns_whole_of_halves (t : Thread nD τ) {sh : Shape} {e : EltTy} (m : Memref sig t.2.kind .vmem sh e) (X : sh.Idx → Elt F e) :
    iprop(owns t m qS X ∗ owns t m qK X) ⊢ (owns t m fullShare X : sProp 𝕄) := by
  unfold owns
  iintro ⟨⟨%f, %hf, H₁⟩, %g, %hg, H₂⟩
  have e : ∀ i ∈ m.view.set, g i = f i := by
    intro i hi
    obtain ⟨x, -, rfl⟩ := Finset.mem_map.mp hi
    have h := congrFun (hg.trans hf.symm) x
    rw [View.read_apply, View.read_apply] at h
    exact (cast_inj _).mp h
  iexists f; isplitr; · ipureintro; exact hf
  iapply (pointsTo_share (PosShare.mem_left_op_right fullShare)).2
  isplitl [H₁]; · iexact H₁
  iapply (Entails.of_eq (pointsTo_congr e)) $$ H₂

theorem wOwn_half (s : Fin 2) (X : Vec F S4x512x1024 .bf16) : wOwn c s fullShare X ⊢ iprop(wOwn c s qS X ∗ wOwn c s qK X) :=
  owns_half (c : Thread nD τ) (wSl s) X
theorem wOwn_join (s : Fin 2) (X : Vec F S4x512x1024 .bf16) : iprop(wOwn c s qS X ∗ wOwn c s qK X) ⊢ wOwn c s fullShare X :=
  owns_whole_of_halves (c : Thread nD τ) (wSl s) X

/-! ## Plain accesses -/

theorem ld {sh : Shape} {e : EltTy} {m : Memref sig .tc .vmem sh e} {q : PosShare TreeShare} {X : Vec F sh e}
    {off : Fin sh.rank → ℕ} {inb : ∀ a, off a + sh.size a ≤ sh.size a}
    {hl : m.view.LoadsAt (Rect.unit off sh.size inb).toLoadRect}
    {α : Type} {Q : α → sProp 𝕄} {k : Vec F sh e → Prog (TpuEff nD τ sig (Elt F) Λ₀ .tc) α} :
    (owns (c : Thread nD τ) m q X : sProp 𝕄)
      ⊢ iprop((owns (c : Thread nD τ) m q X -∗ wp frame (wpE (defs₀ (F := F)) Variants.none (c : Thread nD τ) none) Set.univ (k X) Q)
        -∗ wp frame (wpE (defs₀ (F := F)) Variants.none (c : Thread nD τ) none) Set.univ
          (.op (.load m (Rect.unit off sh.size inb).toLoadRect hl) k) Q) := by
  unfold owns
  iintro ⟨%f, %hf, H⟩ Hk
  iapply (wp_load Variants.none (c : Thread nD τ) none Set.univ (m := m) (View.setOn_subset_set _ _)) $$ H
  iintro H
  rw [View.readAt_full, hf]
  iapply Hk
  iexists f; isplitr; · ipureintro; exact hf
  iexact H

theorem st {sh : Shape} {e : EltTy} {m : Memref sig .tc .vmem sh e} {X : Vec F sh e}
    {off : Fin sh.rank → ℕ} {inb : ∀ a, off a + sh.size a ≤ sh.size a} {w : Vec F sh e}
    {hx : (m.access (Rect.unit off sh.size inb)).Stores Finset.univ} {hm}
    {α : Type} {Q : α → sProp 𝕄} {k : PUnit → Prog (TpuEff nD τ sig (Elt F) Λ₀ .tc) α} :
    (owns (c : Thread nD τ) m fullShare X : sProp 𝕄)
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ
          (.op (.store m (Rect.unit off sh.size inb) w Finset.univ hx hm) k) Q) := by
  unfold owns
  iintro ⟨%f, %hf, H⟩ Hk
  iapply (wp_store Variants.none (c : Thread nD τ) none Set.univ (m := m) (r := Rect.unit off sh.size inb) (w := w) (hx := hx) (hm := hm)
    (f := f) (Memref.setOn_access_subset m _ _)) $$ H
  iintro H
  iapply Hk
  iexists _; isplitr
  rotate_left
  · iexact H
  · ipureintro
    exact View.read_writes_full m.view f inb w []

/-- The slots' shapes with the leading unit axis, as the loads and stores of a slot see them. -/
abbrev upW (X : Vec F S4x512x1024 .bf16) : Vec F S1x4x512x1024 .bf16 := shapeCast S1x4x512x1024 X
abbrev upH (X : Vec F S1x128 .i32) : Vec F S1x1x128 .i32 := shapeCast S1x1x128 X

/-- A load through a rectangle of a memref whose slice there is owned under a shape without the unit axis. -/
theorem ld_sl {sh sm : Shape} {e : EltTy} {M : Memref sig .tc .vmem sh e} {r : Rect sh} {hr : ∀ a, r.stride a = 1}
    {hq : r.shape.Squeezes sm} {q : PosShare TreeShare} {X : Vec F sm e} (hc : r.shape.ShapeCasts sm) (hc' : sm.ShapeCasts r.shape)
    {hl : M.view.LoadsAt r.toLoadRect}
    {α : Type} {Q : α → sProp 𝕄} {k : Vec F r.shape e → Prog (TpuEff nD τ sig (Elt F) Λ₀ .tc) α} :
    (owns (c : Thread nD τ) ((M.slice r hr).squeeze sm hq) q X : sProp 𝕄)
      ⊢ iprop((owns (c : Thread nD τ) ((M.slice r hr).squeeze sm hq) q X
            -∗ wp frame (wpE (defs₀ (F := F)) Variants.none (c : Thread nD τ) none) Set.univ (k (shapeCast r.shape X hc')) Q)
        -∗ wp frame (wpE (defs₀ (F := F)) Variants.none (c : Thread nD τ) none) Set.univ
          (.op (.load M r.toLoadRect hl) k) Q) := by
  unfold owns
  iintro ⟨%f, %hf, H⟩ Hk
  have hX : M.view.readAt (Elt F) r.toLoadRect f = shapeCast r.shape X hc' := by
    rw [← hf]; exact (shapeCast_shapeCast (M.view.readAt (Elt F) r.toLoadRect f) hc hc').symm
  have hS : M.view.setOn r.toLoadRect.set ⊆ ((M.slice r hr).squeeze sm hq).view.set := by
    rw [show ((M.slice r hr).squeeze sm hq).view.set = (M.view.slice r).set from View.set_reshape _ _]
    exact (View.set_slice M.view r).ge
  iapply (wp_load Variants.none (c : Thread nD τ) none Set.univ (m := M) hS) $$ H
  iintro H
  rw [hX]
  iapply Hk
  iexists f; isplitr; · ipureintro; exact hf
  iexact H

/-- The same for a store. -/
theorem st_sl {sh sm : Shape} {e : EltTy} {M : Memref sig .tc .vmem sh e} {r : Rect sh} {hr : ∀ a, r.stride a = 1}
    {hq : r.shape.Squeezes sm} {X : Vec F sm e} (hc : r.shape.ShapeCasts sm) {w : Vec F r.shape e}
    {hx : (M.access r).Stores Finset.univ} {hm}
    {α : Type} {Q : α → sProp 𝕄} {k : PUnit → Prog (TpuEff nD τ sig (Elt F) Λ₀ .tc) α} :
    (owns (c : Thread nD τ) ((M.slice r hr).squeeze sm hq) fullShare X : sProp 𝕄)
      ⊢ iprop((owns (c : Thread nD τ) ((M.slice r hr).squeeze sm hq) fullShare (shapeCast sm w hc)
            -∗ wp frame (wpE (defs₀ (F := F)) Variants.none (c : Thread nD τ) none) Set.univ (k ⟨⟩) Q)
        -∗ wp frame (wpE (defs₀ (F := F)) Variants.none (c : Thread nD τ) none) Set.univ
          (.op (.store M r w Finset.univ hx hm) k) Q) := by
  unfold owns
  iintro ⟨%f, %hf, H⟩ Hk
  have hS : (M.access r).setOn Finset.univ ⊆ ((M.slice r hr).squeeze sm hq).view.set := by
    rw [show ((M.slice r hr).squeeze sm hq).view.set = (M.view.slice r).set from View.set_reshape _ _]
    exact subset_rfl
  iapply (wp_store Variants.none (c : Thread nD τ) none Set.univ (m := M) hS) $$ H
  iintro H
  iapply Hk
  iexists ((M.access r).write (Elt F) f w Finset.univ); isplitr
  · ipureintro
    exact congrArg (fun v => shapeCast sm v hc) (View.read_write_univ (v := M.access r) f w)
  · iexact H

theorem ld_w0 {q : PosShare TreeShare} {X : Vec F S4x512x1024 .bf16} {hl} {α : Type} {Q : α → sProp 𝕄} {k : Vec F S1x4x512x1024 .bf16 → Prog (TpuEff nD τ sig (Elt F) Λ₀ .tc) α} :
    wOwn c 0 q X ⊢ iprop((wOwn c 0 q X -∗ wp frame (wpE (defs₀ (F := F)) Variants.none (c : Thread nD τ) none) Set.univ (k (upW X)) Q)
      -∗ wp frame (wpE (defs₀ (F := F)) Variants.none (c : Thread nD τ) none) Set.univ (.op (.load wM (wRect 0).toLoadRect hl) k) Q) :=
  ld_sl c (hq := squeezes_S1x4x512x1024_S4x512x1024) (by decide) (by decide)
theorem ld_w1 {q : PosShare TreeShare} {X : Vec F S4x512x1024 .bf16} {hl} {α : Type} {Q : α → sProp 𝕄} {k : Vec F S1x4x512x1024 .bf16 → Prog (TpuEff nD τ sig (Elt F) Λ₀ .tc) α} :
    wOwn c 1 q X ⊢ iprop((wOwn c 1 q X -∗ wp frame (wpE (defs₀ (F := F)) Variants.none (c : Thread nD τ) none) Set.univ (k (upW X)) Q)
      -∗ wp frame (wpE (defs₀ (F := F)) Variants.none (c : Thread nD τ) none) Set.univ (.op (.load wM (wRect 1).toLoadRect hl) k) Q) :=
  ld_sl c (hq := squeezes_S1x4x512x1024_S4x512x1024) (by decide) (by decide)
theorem ld_h0 {X : Vec F S1x128 .i32} {hl} {α : Type} {Q : α → sProp 𝕄} {k : Vec F S1x1x128 .i32 → Prog (TpuEff nD τ sig (Elt F) Λ₀ .tc) α} :
    hOwn c 0 X ⊢ iprop((hOwn c 0 X -∗ wp frame (wpE (defs₀ (F := F)) Variants.none (c : Thread nD τ) none) Set.univ (k (upH X)) Q)
      -∗ wp frame (wpE (defs₀ (F := F)) Variants.none (c : Thread nD τ) none) Set.univ (.op (.load hM (hRect 0).toLoadRect hl) k) Q) :=
  ld_sl c (hq := squeezes_S1x1x128_S1x128) (by decide) (by decide)
theorem ld_h1 {X : Vec F S1x128 .i32} {hl} {α : Type} {Q : α → sProp 𝕄} {k : Vec F S1x1x128 .i32 → Prog (TpuEff nD τ sig (Elt F) Λ₀ .tc) α} :
    hOwn c 1 X ⊢ iprop((hOwn c 1 X -∗ wp frame (wpE (defs₀ (F := F)) Variants.none (c : Thread nD τ) none) Set.univ (k (upH X)) Q)
      -∗ wp frame (wpE (defs₀ (F := F)) Variants.none (c : Thread nD τ) none) Set.univ (.op (.load hM (hRect 1).toLoadRect hl) k) Q) :=
  ld_sl c (hq := squeezes_S1x1x128_S1x128) (by decide) (by decide)
theorem st_w0 {X X' : Vec F S4x512x1024 .bf16} {hx hm} {α : Type} {Q : α → sProp 𝕄} {k : PUnit → Prog (TpuEff nD τ sig (Elt F) Λ₀ .tc) α} :
    wOwn c 0 fullShare X ⊢ iprop((wOwn c 0 fullShare X' -∗ wp frame (wpE (defs₀ (F := F)) Variants.none (c : Thread nD τ) none) Set.univ (k ⟨⟩) Q)
      -∗ wp frame (wpE (defs₀ (F := F)) Variants.none (c : Thread nD τ) none) Set.univ (.op (.store wM (wRect 0) (upW X') Finset.univ hx hm) k) Q) := by
  have h := st_sl (F := F) (Q := Q) c (M := wM) (r := wRect 0) (hr := fun _ => rfl) (hq := squeezes_S1x4x512x1024_S4x512x1024) (X := X) (by decide)
    (w := upW X') (hx := hx) (hm := hm) (k := k)
  rw [show shapeCast S4x512x1024 (upW X') (by decide) = X' from shapeCast_shapeCast _ _ _] at h
  exact h
theorem st_h0 {X X' : Vec F S1x128 .i32} {hx hm} {α : Type} {Q : α → sProp 𝕄} {k : PUnit → Prog (TpuEff nD τ sig (Elt F) Λ₀ .tc) α} :
    hOwn c 0 X ⊢ iprop((hOwn c 0 X' -∗ wp frame (wpE (defs₀ (F := F)) Variants.none (c : Thread nD τ) none) Set.univ (k ⟨⟩) Q)
      -∗ wp frame (wpE (defs₀ (F := F)) Variants.none (c : Thread nD τ) none) Set.univ (.op (.store hM (hRect 0) (upH X') Finset.univ hx hm) k) Q) := by
  have h := st_sl (F := F) (Q := Q) c (M := hM) (r := hRect 0) (hr := fun _ => rfl) (hq := squeezes_S1x1x128_S1x128) (X := X) (by decide)
    (w := upH X') (hx := hx) (hm := hm) (k := k)
  rw [show shapeCast S1x128 (upH X') (by decide) = X' from shapeCast_shapeCast _ _ _] at h
  exact h

end Ops

end Cert.Moe

end
-- ==== Proof.HopPair.lean ====
/-
# A hop's two ends

The start of a hop (the credit, the two copies) and its end (the four waits), as one rule each, and the counts' rows.
-/
module

public import proofs.«01_k».proof.Proof.Hop
public import Idealize.ShloMosaic.Lib.ValueLayout

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role
open Idealize.ShloMosaic.ValueIdx

variable {F : FTy → Type} [FloatOps F]

local notation "𝕄" => MT nD τ sig ℕ (Elt F) ℕ UU ℕ

variable (WV : Dev nD → Vec F S4x512x1024 .bf16) (HV : Dev nD → Vec F S1x128 .i32)

theorem bigSep_peel (Φ : ℕ → sProp 𝕄) {a b : ℕ} (h : a < b) :
    bigSep (Finset.Ico a b) Φ = iprop(Φ a ∗ bigSep (Finset.Ico (a + 1) b) Φ) := by
  rw [show Finset.Ico a b = insert a (Finset.Ico (a + 1) b) from by ext x; simp only [Finset.mem_insert, Finset.mem_Ico]; omega,
    bigSep_insert (by simp)]
  rfl

/-- A device stands at a cell's round, and knows it. -/
def stand (c : Dev nD) (k : Role) (r : ℕ) : sProp 𝕄 := iprop(atPos ER (cell c k) r ∅ 0 ∗ reached ER (cell c k) r)

/-- What a device spends on the hop from slot `s` in round `r`: the tokens of its two copies' duties, and the units it waits
    for. -/
def hopRes (c : Dev nD) (s : Fin 2) (r n : ℕ) : sProp 𝕄 :=
  iprop(dutyTok ER (cell c (ws s)) r false ∗ dutyTok ER (cell (nxt c) (wr (oth s))) r false
    ∗ dutyTok ER (cell c (hs s)) r false ∗ dutyTok ER (cell (nxt c) (hr (oth s))) r false
    ∗ cred (tallyAt (cell c (wr (oth s))) r NW) ∗ cred (tallyAt (cell c (hr (oth s))) r NH) ∗ cred (tallyAt (cell c cr) n 1))

/-- Hop `j`'s. -/
def hopAt (c : Dev nD) (j : ℕ) : sProp 𝕄 := hopRes (F := F) c (sl j) (j / 2) j
theorem hopAt_eq (c : Dev nD) (s : Fin 2) (r : ℕ) : hopAt (F := F) c (2 * r + s.val) = hopRes c s r (2 * r + s.val) := by
  unfold hopAt; rw [sl_eq, half_of]

/-- What the device holds of hop `(s, r)` between its start and its end. -/
def midHop (c : Dev nD) (s : Fin 2) (r : ℕ) : sProp 𝕄 :=
  iprop(stand c (ws s) r ∗ stand c (hs s) r ∗ cred (tallyAt (cell c (ws s)) 0 NW) ∗ cred (tallyAt (cell c (hs s)) 0 NH)
    ∗ cred (tallyAt (cell c (wr (oth s))) r NW) ∗ cred (tallyAt (cell c (hr (oth s))) r NH)
    ∗ ow c (2 * r + s.val + 1) (2 * r + s.val + 1) (2 * r + s.val + 1))

variable (κ : GSem nD τ sig → ℕ) (c : Dev nD)

/-- The start of a hop. -/
theorem hop_start (s : Fin 2) (r : ℕ) (hh : 2 * r + s.val < 31) {n n' : Dev nD} (hn : n = nxt c) (hn' : n' = nxt c)
    {sm : Sem sig} (hsm : sm = (0 : Sem sig))
    {src dst : Memref sig .tc .vmem S4x512x1024 .bf16} (hs' : src = wSl s) (hd' : dst = wSl (oth s))
    {sS sR : SemLoc sig} (hsS : sS = semOf (ws s)) (hsR : sR = semOf (wr (oth s)))
    {hsc : dst.view.ref.isScScratch = false} {hsrc : src.view.WordExact} {hdst : dst.view.WordExact}
    {hsem : DmaTarget.Typed .vmem sR (.remote (Dev.tc (τ := τ) n) dst sS hsc)}
    {src' dst' : Memref sig .tc .vmem S1x128 .i32} (hs2 : src' = hSl s) (hd2 : dst' = hSl (oth s))
    {sS' sR' : SemLoc sig} (hsS' : sS' = semOf (hs s)) (hsR' : sR' = semOf (hr (oth s)))
    {hsc' : dst'.view.ref.isScScratch = false} {hsrc' : src'.view.WordExact} {hdst' : dst'.view.WordExact}
    {hsem' : DmaTarget.Typed .vmem sR' (.remote (Dev.tc (τ := τ) n') dst' sS' hsc')}
    {α : Type} {Q : α → sProp 𝕄} {k : PUnit → Prog (TpuEff nD τ sig (Elt F) Λ₀ .tc) α} :
    iprop(env WV HV κ ∗ hopRes c s r (2 * r + s.val) ∗ stand c cr (2 * r + s.val) ∗ stand c (ws s) r ∗ stand c (hs s) r
        ∗ wOwn c s fullShare (WV (org c (2 * r + s.val))) ∗ hOwn c s (HV (org c (2 * r + s.val)))
        ∗ ow c (2 * r + s.val) (2 * r + s.val) (2 * r + s.val + 1))
      ⊢ iprop(((midHop c s r ∗ stand c cr (2 * r + s.val + 1) ∗ wOwn c s qK (WV (org c (2 * r + s.val))))
            -∗ wp frame (wpE (defs₀ (F := F)) Variants.none (c : Thread nD τ) none) Set.univ (k ⟨⟩) Q)
          -∗ wp frame (wpE (defs₀ (F := F)) Variants.none (c : Thread nD τ) none) Set.univ
            (.op (.semWait sm 1) fun _ =>
              .op (.enqueueDma src (.remote (Dev.tc n) dst sS hsc) sR hsrc hdst hsem) fun _ =>
                .op (.enqueueDma src' (.remote (Dev.tc n') dst' sS' hsc') sR' hsrc' hdst' hsem') k) Q) := by
  subst hsm
  unfold hopRes stand
  iintro ⟨#He, ⟨Hws, Hwr, Hhs, Hhr, Hcw, Hch, Hcc⟩, ⟨Hcr, -⟩, ⟨Hpw, #Hrw⟩, ⟨Hph, #Hrh⟩, Hw, Hh, HO⟩ Hk
  have k₁ := wait_one (Q := Q) WV HV κ c cr (2 * r + s.val) (2 * r + s.val) (2 * r + s.val) (2 * r + s.val) (2 * r + s.val + 1) (duties_cr hh)
    (by omega) (by show 2 * (2 * r + s.val) + 2 < _; omega) (by show 2 * (2 * r + s.val) + 2 < _; omega) (by show 2 * (2 * r + s.val) + 2 < _; omega)
    (w := .semWait (0 : Sem sig) 1) (wpE_semWait_eq (defs := defs₀ (F := F)) (sem := (0 : Sem sig)) (k := 1) Variants.none (c : Thread nD τ) none Set.univ)
    (k := fun _ => .op (.enqueueDma src (.remote (Dev.tc n) dst sS hsc) sR hsrc hdst hsem) fun _ =>
                .op (.enqueueDma src' (.remote (Dev.tc n') dst' sS' hsc') sR' hsrc' hdst' hsem') k)
  iapply k₁ $$ [Hcc HO Hcr]
  · isplitl []; · iexact He
    isplitl [Hcc]; · iexact Hcc
    isplitl [HO]; · iexact HO
    iexact Hcr
  rw [payR_cr]
  iintro ⟨HO, Hcr, #Hrcr, Hdw, Hdh, #Hr₁, #Hr₂⟩
  ihave Hw := (wOwn_half c s (WV (org c (2 * r + s.val)))) $$ Hw
  icases Hw with ⟨HwS, HwK⟩
  have k₂ := send_w (Q := Q) WV HV κ c s r hh (2 * r + s.val) (2 * r + s.val + 1) hn hs' hd' hsS hsR (hsc := hsc) (hsrc := hsrc) (hdst := hdst) (hsem := hsem)
    (k := fun _ => .op (.enqueueDma src' (.remote (Dev.tc n') dst' sS' hsc') sR' hsrc' hdst' hsem') k)
  iapply k₂ $$ [HwS Hdw HO Hws Hwr]
  · isplitl []; · iexact He
    isplitl [HwS]; · iexact HwS
    isplitl [Hdw]; · iexact Hdw
    isplitl []; · iexact Hrcr
    isplitl [HO]; · iexact HO
    isplitl [Hws]; · iexact Hws
    isplitl []; · iexact Hrw
    isplitl [Hwr]; · iexact Hwr
    iexact Hr₁
  iintro ⟨Hcs, HO⟩
  have k₃ := send_h (Q := Q) WV HV κ c s r hh (2 * r + s.val + 1) (2 * r + s.val + 1) hn' hs2 hd2 hsS' hsR' (hsc := hsc') (hsrc := hsrc') (hdst := hdst') (hsem := hsem')
    (k := k)
  iapply k₃ $$ [Hh Hdh HO Hhs Hhr]
  · isplitl []; · iexact He
    isplitl [Hh]; · iexact Hh
    isplitl [Hdh]; · iexact Hdh
    isplitl [HO]; · iexact HO
    isplitl [Hhs]; · iexact Hhs
    isplitl []; · iexact Hrh
    isplitl [Hhr]; · iexact Hhr
    iexact Hr₂
  iintro ⟨Hct, HO⟩
  iapply Hk
  unfold midHop stand
  isplitl [Hpw Hph Hcs Hct Hcw Hch HO]
  · isplitl [Hpw]
    · isplitl [Hpw]; · iexact Hpw
      iexact Hrw
    isplitl [Hph]
    · isplitl [Hph]; · iexact Hph
      iexact Hrh
    isplitl [Hcs]; · iexact Hcs
    isplitl [Hct]; · iexact Hct
    isplitl [Hcw]; · iexact Hcw
    isplitl [Hch]; · iexact Hch
    iexact HO
  isplitl [Hcr]
  · isplitl [Hcr]; · iexact Hcr
    iexact Hrcr
  iexact HwK

/-- The end of a hop. -/
theorem hop_end (s : Fin 2) (r : ℕ) (hh : 2 * r + s.val < 31)
    {d₁ d₂ d₃ d₄ : DmaSem sig} (e₁ : SemLoc.dma d₁ = semOf (ws s)) (e₂ : SemLoc.dma d₂ = semOf (wr (oth s)))
    (e₃ : SemLoc.dma d₃ = semOf (hs s)) (e₄ : SemLoc.dma d₄ = semOf (hr (oth s)))
    {a₁ b₁ a₂ b₂ : Memref sig .tc .vmem S4x512x1024 .bf16} {a₃ b₃ a₄ b₄ : Memref sig .tc .vmem S1x128 .i32}
    (c₁ : b₁.view.dmaCredit = NW) (c₂ : b₂.view.dmaCredit = NW) (c₃ : b₃.view.dmaCredit = NH) (c₄ : b₄.view.dmaCredit = NH)
    {x₁ y₁ x₂ y₂ x₃ y₃ x₄ y₄}
    {α : Type} {Q : α → sProp 𝕄} {k : PUnit → Prog (TpuEff nD τ sig (Elt F) Λ₀ .tc) α} :
    iprop(env WV HV κ ∗ midHop c s r ∗ stand c (wr (oth s)) r ∗ stand c (hr (oth s)) r ∗ wOwn c s qK (WV (org c (2 * r + s.val))))
      ⊢ iprop(((stand c (ws s) (r + 1) ∗ stand c (hs s) (r + 1) ∗ stand c (wr (oth s)) (r + 1) ∗ stand c (hr (oth s)) (r + 1)
              ∗ ow c (2 * r + s.val + 1) (2 * r + s.val + 1) (2 * r + s.val + 1)
              ∗ wOwn c s fullShare (WV (org c (2 * r + s.val))) ∗ hOwn c s (HV (org c (2 * r + s.val)))
              ∗ wOwn c (oth s) fullShare (WV (org c (2 * r + s.val + 1))) ∗ hOwn c (oth s) (HV (org c (2 * r + s.val + 1)))
              ∗ reached ER (cell (prv c) cr) (2 * r + s.val + 1))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 d₁ a₁ b₁ x₁ y₁) fun _ => .op (.waitDma2 d₂ a₂ b₂ x₂ y₂) fun _ =>
              .op (.waitDma2 d₃ a₃ b₃ x₃ y₃) fun _ => .op (.waitDma2 d₄ a₄ b₄ x₄ y₄) k) Q) := by
  have hhs : s.val < 2 := s.isLt
  unfold midHop stand
  iintro ⟨#He, ⟨⟨Hp₁, -⟩, ⟨Hp₃, -⟩, Hc₁, Hc₃, Hc₂, Hc₄, HO⟩, ⟨Hp₂, -⟩, ⟨Hp₄, -⟩, HwK⟩ Hk
  have k₁ := wait_one (Q := Q) WV HV κ c (ws s) r 0 (2 * r + s.val + 1) (2 * r + s.val + 1) (2 * r + s.val + 1) (duties_ws hh)
    (by omega) (by show 0 < _; omega) (by show 0 < _; omega) (by show 0 < _; omega)
    (w := .waitDma2 d₁ a₁ b₁ x₁ y₁) (fun K => by
      rw [← e₁, show amountR (ws s) = b₁.view.dmaCredit from c₁.symm]; exact wpE_waitDma2_eq (defs := defs₀ (F := F)) Variants.none (c : Thread nD τ) none Set.univ K)
    (k := fun _ => .op (.waitDma2 d₂ a₂ b₂ x₂ y₂) fun _ =>
              .op (.waitDma2 d₃ a₃ b₃ x₃ y₃) fun _ => .op (.waitDma2 d₄ a₄ b₄ x₄ y₄) k)
  iapply k₁ $$ [Hc₁ HO Hp₁]
  · isplitl []; · iexact He
    isplitl [Hc₁]; · iexact Hc₁
    isplitl [HO]; · iexact HO
    iexact Hp₁
  iintro ⟨HO, Hp₁, #Hr₁, Hw⟩
  have k₂ := wait_one (Q := Q) WV HV κ c (wr (oth s)) r r (2 * r + s.val + 1) (2 * r + s.val + 1) (2 * r + s.val + 1) (duties_wr hh)
    (by omega) (by show 2 * (2 * r + (oth (oth s)).val) + 3 < _; rw [oth_oth]; omega)
    (by show 2 * (2 * r + (oth (oth s)).val) + 3 < _; rw [oth_oth]; omega) (by show 2 * (2 * r + (oth (oth s)).val) + 3 < _; rw [oth_oth]; omega)
    (w := .waitDma2 d₂ a₂ b₂ x₂ y₂) (fun K => by
      rw [← e₂, show amountR (wr (oth s)) = b₂.view.dmaCredit from c₂.symm]; exact wpE_waitDma2_eq (defs := defs₀ (F := F)) Variants.none (c : Thread nD τ) none Set.univ K)
    (k := fun _ => .op (.waitDma2 d₃ a₃ b₃ x₃ y₃) fun _ => .op (.waitDma2 d₄ a₄ b₄ x₄ y₄) k)
  iapply k₂ $$ [Hc₂ HO Hp₂]
  · isplitl []; · iexact He
    isplitl [Hc₂]; · iexact Hc₂
    isplitl [HO]; · iexact HO
    iexact Hp₂
  rw [show payR WV HV c (wr (oth s)) r false = iprop(wOwn c (oth s) fullShare (WV (org c (2 * r + (oth (oth s)).val + 1)))
    ∗ reached ER (cell (prv c) cr) (2 * r + (oth (oth s)).val + 1)) from rfl, oth_oth]
  iintro ⟨HO, Hp₂, #Hr₂, Hw', #Hrc⟩
  have k₃ := wait_one (Q := Q) WV HV κ c (hs s) r 0 (2 * r + s.val + 1) (2 * r + s.val + 1) (2 * r + s.val + 1) (duties_hs hh)
    (by omega) (by show 0 < _; omega) (by show 0 < _; omega) (by show 0 < _; omega)
    (w := .waitDma2 d₃ a₃ b₃ x₃ y₃) (fun K => by
      rw [← e₃, show amountR (hs s) = b₃.view.dmaCredit from c₃.symm]; exact wpE_waitDma2_eq (defs := defs₀ (F := F)) Variants.none (c : Thread nD τ) none Set.univ K)
    (k := fun _ => .op (.waitDma2 d₄ a₄ b₄ x₄ y₄) k)
  iapply k₃ $$ [Hc₃ HO Hp₃]
  · isplitl []; · iexact He
    isplitl [Hc₃]; · iexact Hc₃
    isplitl [HO]; · iexact HO
    iexact Hp₃
  iintro ⟨HO, Hp₃, #Hr₃, Hh⟩
  have k₄ := wait_one (Q := Q) WV HV κ c (hr (oth s)) r r (2 * r + s.val + 1) (2 * r + s.val + 1) (2 * r + s.val + 1) (duties_hr hh)
    (by omega) (by show 2 * (2 * r + (oth (oth s)).val) + 3 < _; rw [oth_oth]; omega)
    (by show 2 * (2 * r + (oth (oth s)).val) + 3 < _; rw [oth_oth]; omega) (by show 2 * (2 * r + (oth (oth s)).val) + 3 < _; rw [oth_oth]; omega)
    (w := .waitDma2 d₄ a₄ b₄ x₄ y₄) (fun K => by
      rw [← e₄, show amountR (hr (oth s)) = b₄.view.dmaCredit from c₄.symm]; exact wpE_waitDma2_eq (defs := defs₀ (F := F)) Variants.none (c : Thread nD τ) none Set.univ K)
    (k := k)
  iapply k₄ $$ [Hc₄ HO Hp₄]
  · isplitl []; · iexact He
    isplitl [Hc₄]; · iexact Hc₄
    isplitl [HO]; · iexact HO
    iexact Hp₄
  rw [show payR WV HV c (hr (oth s)) r false = hOwn c (oth s) (HV (org c (2 * r + (oth (oth s)).val + 1))) from rfl, oth_oth]
  iintro ⟨HO, Hp₄, #Hr₄, Hh'⟩
  iapply Hk
  isplitl [Hp₁]
  · isplitl [Hp₁]; · iexact Hp₁
    iexact Hr₁
  isplitl [Hp₃]
  · isplitl [Hp₃]; · iexact Hp₃
    iexact Hr₃
  isplitl [Hp₂]
  · isplitl [Hp₂]; · iexact Hp₂
    iexact Hr₂
  isplitl [Hp₄]
  · isplitl [Hp₄]; · iexact Hp₄
    iexact Hr₄
  isplitl [HO]; · iexact HO
  isplitl [Hw HwK]
  · iapply (wOwn_join c s (WV (org c (2 * r + s.val))))
    isplitl [Hw]; · iapply (Entails.of_eq (show payR WV HV c (ws s) r false = wOwn c s qS (WV (org c (2 * r + s.val))) from rfl)) $$ Hw
    iexact HwK
  isplitl [Hh]; · iapply (Entails.of_eq (show payR WV HV c (hs s) r false = hOwn c s (HV (org c (2 * r + s.val))) from rfl)) $$ Hh
  isplitl [Hw']; · iexact Hw'
  isplitl [Hh']; · iexact Hh'
  iexact Hrc

/-! ## The counts' rows -/

abbrev tM : Memref sig .tc .vmem S32x128 .i32 := Memref.whole cc0_scratch2

/-- The rows of the `n` devices up to `c` hold what they started with. -/
def Rows (n : ℕ) (X : Vec F S32x128 .i32) : Prop :=
  ∀ j < n, ∀ e : Fin 128, X (ix2 (org c j) e) = HV (org c j) (ix2 (0 : Fin 1) e)

def tOwn (n : ℕ) : sProp 𝕄 := iprop(∃ X, ⌜Rows HV c n X⌝ ∗ owns (c : Thread nD τ) tM fullShare X)

theorem org_inj (c : Dev nD) {a b : ℕ} (ha : a < 32) (hb : b < 32) (h : org c a = org c b) : a = b := by
  have h' : (c.val + 31 * a) % 32 = (c.val + 31 * b) % 32 := congrArg Fin.val h
  omega

/-- A load of a row whose value is not used. -/
theorem ld_row {n : ℕ} {off : Fin 2 → ℕ} {inb : ∀ a, off a + S1x128.size a ≤ S32x128.size a}
    {hl : tM.view.LoadsAt (Rect.unit (s := S32x128) off S1x128.size inb).toLoadRect}
    {α : Type} {Q : α → sProp 𝕄} {k : Prog (TpuEff nD τ sig (Elt F) Λ₀ .tc) α} :
    tOwn HV c n ⊢ iprop((tOwn HV c n -∗ wp frame (wpE (defs₀ (F := F)) Variants.none (c : Thread nD τ) none) Set.univ k Q)
        -∗ wp frame (wpE (defs₀ (F := F)) Variants.none (c : Thread nD τ) none) Set.univ
          (.op (.load tM (Rect.unit (s := S32x128) off S1x128.size inb).toLoadRect hl) (fun _ => k)) Q) := by
  unfold tOwn owns
  iintro ⟨%X, %hX, %f, %hf, H⟩ Hk
  have key := wp_load (defs := defs₀ (F := F)) (Γ := .empty) (Q := Q) Variants.none (c : Thread nD τ) none Set.univ (m := tM) (hl := hl) (k := fun _ => k) (q := fullShare) (f := f)
    (View.setOn_subset_set tM.view (Rect.unit (s := S32x128) off S1x128.size inb).toLoadRect.set)
  iapply key $$ H
  iintro H
  iapply Hk
  iexists X; isplitr; · ipureintro; exact hX
  iexists f; isplitr; · ipureintro; exact hf
  iexact H

/-- The store of the next row. -/
theorem st_row {n : ℕ} (hn : n < 32) {off : Fin 2 → ℕ} (ho : off = ![(org c n).val, 0]) {inb : ∀ a, off a + S1x128.size a ≤ S32x128.size a}
    {w : Vec F S1x128 .i32} (hw : w = HV (org c n))
    {hx : (tM.access (Rect.unit (s := S32x128) off S1x128.size inb)).Stores Finset.univ} {hm}
    {α : Type} {Q : α → sProp 𝕄} {k : PUnit → Prog (TpuEff nD τ sig (Elt F) Λ₀ .tc) α} :
    tOwn HV c n ⊢ iprop((tOwn HV c (n + 1) -∗ wp frame (wpE (defs₀ (F := F)) Variants.none (c : Thread nD τ) none) Set.univ (k ⟨⟩) Q)
        -∗ wp frame (wpE (defs₀ (F := F)) Variants.none (c : Thread nD τ) none) Set.univ
          (.op (.store tM (Rect.unit (s := S32x128) off S1x128.size inb) w Finset.univ hx hm) k) Q) := by
  subst ho
  unfold tOwn owns
  iintro ⟨%X, %hX, %f, %hf, H⟩ Hk
  have key := wp_store (defs := defs₀ (F := F)) (Γ := .empty) (Q := Q) Variants.none (c : Thread nD τ) none Set.univ (m := tM)
    (r := Rect.unit (s := S32x128) ![(org c n).val, 0] S1x128.size inb) (w := w) (hx := hx) (hm := hm) (k := k) (f := f)
    (Memref.setOn_access_subset tM _ _)
  iapply key $$ H
  iintro H
  iapply Hk
  iexists tM.view.read (Elt F) ((tM.access (Rect.unit (s := S32x128) ![(org c n).val, 0] S1x128.size inb)).write (Elt F) f w Finset.univ)
  isplitr
  · ipureintro
    intro j hj e
    show View.read (Elt F) tM.view (tM.view.writes (Elt F) f [⟨Rect.unit (s := S32x128) ![(org c n).val, 0] S1x128.size inb, w⟩]) _ = _
    rw [View.read_writes_cons_put _ _ _ _ _ rfl, View.writes_nil, hf]
    unfold VecWindow.put
    by_cases h : (org c j).val = (org c n).val
    · have hjn : j = n := org_inj c (by omega) hn (Fin.ext h)
      subst hjn
      rw [dif_pos (by
        intro a; fin_cases a
        · exact ⟨le_refl _, Nat.lt_succ_self _⟩
        · exact ⟨Nat.zero_le _, by show e.val < 0 + 128; omega⟩), hw]
      refine congrArg (HV (org c j)) (funext fun a => Fin.ext ?_)
      fin_cases a
      · show (org c j).val - (org c j).val = 0; omega
      · show e.val - 0 = e.val; omega
    · rw [dif_neg (by
        intro h'; have := h' 0
        apply h
        have h0 : (org c n).val ≤ (org c j).val ∧ (org c j).val < (org c n).val + 1 := this
        omega)]
      exact hX j (by rcases Nat.lt_succ_iff_lt_or_eq.mp hj with h' | rfl; exacts [h', absurd rfl h]) e
  · iexists _; isplitr
    rotate_left
    · iexact H
    · ipureintro; rfl

end Cert.Moe

end
-- ==== Proof.Acc.lean ====
/-
# One hop's arithmetic

What the kernel adds to its accumulator at a hop, as one function of the weights that arrived, and the kernel's own
expressions for it.
-/
module

public import proofs.«01_k».proof.Proof.HopPair
public import proofs.«01_k».proof.Proof.Gen.KernelIdeal.Skeleton

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role
open Idealize.ShloMosaic.ValueIdx

variable {F : FTy → Type} [FloatOps F]

/-- The tokens of expert `4 o + k`, the other rows zeroed. -/
def pick (o k : BitVec 32) (x : Vec F S2048x512 .bf16) (e : Vec F S2048x1 .i32) : FVec F S2048x512 .bf16 :=
  mulf x (broadcastTo S2048x512 (truncf .bf16 (sitofp .f32 (extui 32
    (cmpi .eq e (broadcast S2048x1 (Scalar.addi (Scalar.muli o 4#32) k))) natLt_1_32)) bitsLt_bf16_f32) broadcasts_S2048x1_S2048x512)

/-- One hop: the four experts of device `o` applied to their tokens, added to `A`. -/
def stepW (o : BitVec 32) (x : Vec F S2048x512 .bf16) (e : Vec F S2048x1 .i32) (W : Vec F S4x512x1024 .bf16)
    (A : Vec F S2048x1024 .f32) : Vec F S2048x1024 .f32 :=
  addf A (matmul dot_S2048x2048_S2048x1024_S2048x1024_1_0_0_1_n_n none
    (concatenate S2048x2048 1 [⟨_, pick o 0#32 x e⟩, ⟨_, pick o 1#32 x e⟩, ⟨_, pick o 2#32 x e⟩, ⟨_, pick o 3#32 x e⟩]
      concatenates_S2048x512_S2048x512_S2048x512_S2048x512_S2048x2048_d1)
    (shapeCast S2048x1024 W shapeCasts_S4x512x1024_S2048x1024) (constant S2048x1024 .f32 0x00000000#32))

theorem pay_even (o : BitVec 32) (x : Vec F S2048x512 .bf16) (e : Vec F S2048x1 .i32) (W : Vec F S4x512x1024 .bf16) (A : Vec F S2048x1024 .f32) :
    k0_pay8 o (k0_pay2 A) (k0_pay3 (upW W)) (k0_pay4 o x e) (k0_pay5 o x e) (k0_pay6 x) (k0_pay7 o e) x e = stepW o x e W A := by
  unfold k0_pay8 k0_pay2 k0_pay3 k0_pay4 k0_pay5 k0_pay6 k0_pay7 stepW pick upW
  rw [shapeCast_self x, shapeCast_self e, shapeCast_self A, shapeCast_shapeCast W]

theorem pay_odd (v : BitVec 32) (x : Vec F S2048x512 .bf16) (e : Vec F S2048x1 .i32) (W : Vec F S4x512x1024 .bf16) (A : Vec F S2048x1024 .f32) :
    k0_pay16 (Scalar.remsi (Scalar.addi v 64#32) 32#32) (k0_pay11 A) (k0_pay12 (upW W)) (k0_pay13 v x e) (k0_pay14 v x e) (k0_pay15 x) e x e
      = stepW (Scalar.remsi (Scalar.addi v 64#32) 32#32) x e W A := by
  unfold k0_pay16 k0_pay11 k0_pay12 k0_pay13 k0_pay14 k0_pay15 stepW pick upW
  rw [shapeCast_self x, shapeCast_self e, shapeCast_self A, shapeCast_shapeCast W]

theorem pay_last (v : BitVec 32) (x : Vec F S2048x512 .bf16) (e : Vec F S2048x1 .i32) (W : Vec F S4x512x1024 .bf16) (A : Vec F S2048x1024 .f32) :
    k0_pay29 (Scalar.remsi (Scalar.addi (Scalar.subi v 30#32) 64#32) 32#32) (k0_pay23 A) (k0_pay24 (upW W)) (k0_pay25 v x e) (k0_pay26 x) (k0_pay27 e)
        (k0_pay28 v) x e x e
      = stepW (Scalar.remsi (Scalar.addi (Scalar.subi v 30#32) 64#32) 32#32) x e W A := by
  unfold k0_pay29 k0_pay23 k0_pay24 k0_pay25 k0_pay26 k0_pay27 k0_pay28 stepW pick upW
  rw [shapeCast_self x, shapeCast_self e, shapeCast_self A, shapeCast_shapeCast W]

theorem pay_tail (v : BitVec 32) (x : Vec F S2048x512 .bf16) (e : Vec F S2048x1 .i32) (W : Vec F S4x512x1024 .bf16) (A : Vec F S2048x1024 .f32) :
    k0_pay34 (k0_pay31 A) (Scalar.remsi (Scalar.addi v 1#32) 32#32) (k0_pay32 (upW W)) (k0_pay33 v x e) x e x e x e
      = stepW (Scalar.remsi (Scalar.addi v 1#32) 32#32) x e W A := by
  unfold k0_pay34 k0_pay31 k0_pay32 k0_pay33 stepW pick upW
  rw [shapeCast_self x, shapeCast_self e, shapeCast_self A, shapeCast_shapeCast W]

theorem pay_row₁ (X : Vec F S1x128 .i32) : k0_pay10 (k0_pay9 (F := F) (upH X)) = X := by
  unfold k0_pay10 k0_pay9 upH; simp only [shapeCast_self, shapeCast_shapeCast]
theorem pay_row₂ (X : Vec F S1x128 .i32) : k0_pay22 (F := F) (upH X) = X := by
  unfold k0_pay22 upH; simp only [shapeCast_self, shapeCast_shapeCast]
theorem pay_row₃ (X : Vec F S1x128 .i32) : k0_pay30 (F := F) (upH X) = X := by
  unfold k0_pay30 upH; simp only [shapeCast_self, shapeCast_shapeCast]
theorem pay_row₀ (X : Vec F S1x128 .i32) : k0_pay20 (k0_pay19 (F := F) X) = X := by
  unfold k0_pay20 k0_pay19; simp only [shapeCast_self, shapeCast_shapeCast]
theorem pay_w (X : Vec F S4x512x1024 .bf16) : k0_pay17 X = upW X := by
  unfold k0_pay17 upW; simp only [shapeCast_self]
theorem pay_h (X : Vec F S1x128 .i32) : k0_pay18 (F := F) X = upH X := by
  unfold k0_pay18 upH; simp only [shapeCast_self]

/-! ## The words for the origin -/

/-- The kernel's word for the device it runs on. -/
def me (c : Dev nD) : BitVec 32 := Scalar.remsi (Scalar.divsi (Dev.word c) 1#32) 32#32
def word (c : Dev nD) : BitVec 32 := BitVec.ofNat 32 c.val

theorem me_eq : ∀ c : Dev nD, me c = word c := by decide +kernel

theorem even_word : ∀ (c : Dev nD) (t : Fin k0_t1_loop.trips),
    Scalar.remsi (Scalar.addi (Scalar.subi (me c) (Scalar.muli 2#32 (Scf.iv 0#32 1#32 t))) 64#32) 32#32 = word (org c (2 * t.val)) := by
  decide +kernel
theorem odd_word : ∀ (c : Dev nD) (t : Fin k0_t1_loop.trips),
    Scalar.remsi (Scalar.addi (Scalar.subi (me c) (Scalar.addi (Scalar.muli 2#32 (Scf.iv 0#32 1#32 t)) 1#32)) 64#32) 32#32 = word (org c (2 * t.val + 1)) := by
  decide +kernel
theorem last_word : ∀ c : Dev nD, Scalar.remsi (Scalar.addi (Scalar.subi (me c) 30#32) 64#32) 32#32 = word (org c 30) := by
  decide +kernel
theorem tail_word : ∀ c : Dev nD, Scalar.remsi (Scalar.addi (me c) 1#32) 32#32 = word (org c 31) := by decide +kernel

theorem trips_eq : k0_t1_loop.trips = 15 := by decide +kernel

variable (WV : Dev nD → Vec F S4x512x1024 .bf16)

/-- The accumulator of device `c` before hop `n`. -/
def acc (c : Dev nD) (x : Vec F S2048x512 .bf16) (e : Vec F S2048x1 .i32) : ℕ → Vec F S2048x1024 .f32
  | 0 => k0_pay21
  | n + 1 => stepW (word (org c n)) x e (WV (org c n)) (acc c x e n)

end Cert.Moe

end
-- ==== Proof.Trip.lean ====
/-
# One trip of the loop

Two hops: what a device holds before a trip, and that the trip's statements take it to what it holds before the next.
-/
module

public import proofs.«01_k».proof.Proof.Acc

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role
open Idealize.ShloMosaic.ValueIdx

variable {F : FTy → Type} [FloatOps F]

local notation "𝕄" => MT nD τ sig ℕ (Elt F) ℕ UU ℕ

variable (WV : Dev nD → Vec F S4x512x1024 .bf16) (HV : Dev nD → Vec F S1x128 .i32) (κ : GSem nD τ sig → ℕ) (c : Dev nD)

section Wrappers

/-- The start of a hop, its number and slots named apart. -/
theorem hop_start' (s s' : Fin 2) (hss : s' = oth s) (r n h : ℕ) (hnum : n = 2 * r + s.val) (hh : n < 31) {n₁ n₂ : Dev nD} (hn : n₁ = nxt c) (hn' : n₂ = nxt c)
    {sm : Sem sig} (hsm : sm = (0 : Sem sig))
    {src dst : Memref sig .tc .vmem S4x512x1024 .bf16} (hs' : src = wSl s) (hd' : dst = wSl s')
    {sS sR : SemLoc sig} (hsS : sS = semOf (ws s)) (hsR : sR = semOf (wr s'))
    {hsc : dst.view.ref.isScScratch = false} {hsrc : src.view.WordExact} {hdst : dst.view.WordExact}
    {hsem : DmaTarget.Typed .vmem sR (.remote (Dev.tc (τ := τ) n₁) dst sS hsc)}
    {src' dst' : Memref sig .tc .vmem S1x128 .i32} (hs2 : src' = hSl s) (hd2 : dst' = hSl s')
    {sS' sR' : SemLoc sig} (hsS' : sS' = semOf (hs s)) (hsR' : sR' = semOf (hr s'))
    {hsc' : dst'.view.ref.isScScratch = false} {hsrc' : src'.view.WordExact} {hdst' : dst'.view.WordExact}
    {hsem' : DmaTarget.Typed .vmem sR' (.remote (Dev.tc (τ := τ) n₂) dst' sS' hsc')}
    {α : Type} {Q : α → sProp 𝕄} {k : PUnit → Prog (TpuEff nD τ sig (Elt F) Λ₀ .tc) α} :
    iprop(env WV HV κ ∗ hopAt c n ∗ stand c cr n ∗ stand c (ws s) r ∗ stand c (hs s) r
        ∗ wOwn c s fullShare (WV (org c n)) ∗ hOwn c s (HV (org c n))
        ∗ ow c n n (n + 1))
      ⊢ iprop(((midHop c s r ∗ stand c cr (n + 1) ∗ wOwn c s qK (WV (org c n)))
            -∗ wp frame (wpE (defs₀ (F := F)) Variants.none (c : Thread nD τ) none) Set.univ (k ⟨⟩) Q)
          -∗ wp frame (wpE (defs₀ (F := F)) Variants.none (c : Thread nD τ) none) Set.univ
            (.op (.semWait sm 1) fun _ =>
              .op (.enqueueDma src (.remote (Dev.tc n₁) dst sS hsc) sR hsrc hdst hsem) fun _ =>
                .op (.enqueueDma src' (.remote (Dev.tc n₂) dst' sS' hsc') sR' hsrc' hdst' hsem') k) Q) := by
  subst hss hnum
  rw [hopAt_eq]
  exact hop_start WV HV κ c s r hh hn hn' hsm hs' hd' hsS hsR hs2 hd2 hsS' hsR'

/-- The end of a hop, likewise. -/
theorem hop_end' (s s' : Fin 2) (hss : s' = oth s) (r n : ℕ) (hnum : n = 2 * r + s.val) (hh : n < 31)
    {d₁ d₂ d₃ d₄ : DmaSem sig} (e₁ : SemLoc.dma d₁ = semOf (ws s)) (e₂ : SemLoc.dma d₂ = semOf (wr s'))
    (e₃ : SemLoc.dma d₃ = semOf (hs s)) (e₄ : SemLoc.dma d₄ = semOf (hr s'))
    {a₁ b₁ a₂ b₂ : Memref sig .tc .vmem S4x512x1024 .bf16} {a₃ b₃ a₄ b₄ : Memref sig .tc .vmem S1x128 .i32}
    (c₁ : b₁.view.dmaCredit = NW) (c₂ : b₂.view.dmaCredit = NW) (c₃ : b₃.view.dmaCredit = NH) (c₄ : b₄.view.dmaCredit = NH)
    {x₁ y₁ x₂ y₂ x₃ y₃ x₄ y₄}
    {α : Type} {Q : α → sProp 𝕄} {k : PUnit → Prog (TpuEff nD τ sig (Elt F) Λ₀ .tc) α} :
    iprop(env WV HV κ ∗ midHop c s r ∗ stand c (wr s') r ∗ stand c (hr s') r ∗ wOwn c s qK (WV (org c n)))
      ⊢ iprop(((stand c (ws s) (r + 1) ∗ stand c (hs s) (r + 1) ∗ stand c (wr s') (r + 1) ∗ stand c (hr s') (r + 1)
              ∗ ow c (n + 1) (n + 1) (n + 1)
              ∗ wOwn c s fullShare (WV (org c n)) ∗ hOwn c s (HV (org c n))
              ∗ wOwn c s' fullShare (WV (org c (n + 1))) ∗ hOwn c s' (HV (org c (n + 1)))
              ∗ reached ER (cell (prv c) cr) (n + 1))
            -∗ wp frame (wpE (defs₀ (F := F)) Variants.none (c : Thread nD τ) none) Set.univ (k ⟨⟩) Q)
          -∗ wp frame (wpE (defs₀ (F := F)) Variants.none (c : Thread nD τ) none) Set.univ
            (.op (.waitDma2 d₁ a₁ b₁ x₁ y₁) fun _ => .op (.waitDma2 d₂ a₂ b₂ x₂ y₂) fun _ =>
              .op (.waitDma2 d₃ a₃ b₃ x₃ y₃) fun _ => .op (.waitDma2 d₄ a₄ b₄ x₄ y₄) k) Q) := by
  subst hss hnum
  exact hop_end WV HV κ c s r hh e₁ e₂ e₃ e₄ c₁ c₂ c₃ c₄

/-- The credit for hop `n` from slot `s`, returned to the left: it hands out the other slot. -/
theorem signal_cr' (s s' : Fin 2) (hss : s' = oth s) (r n : ℕ) (hnum : n = 2 * r + s.val) (hh : n < 31) (a b : ℕ) {n₁ : Dev nD} (hn : n₁ = prv c)
    {sm : Sem sig} (hsm : SemLoc.reg sm = semOf cr)
    {α : Type} {Q : α → sProp 𝕄} {k : PUnit → Prog (TpuEff nD τ sig (Elt F) Λ₀ .tc) α} :
    iprop(env WV HV κ ∗ (∃ X, wOwn c s' fullShare X) ∗ (∃ Y, hOwn c s' Y) ∗ reached ER (cell c (wr s')) r ∗ reached ER (cell c (hr s')) r
        ∗ ow c a b n ∗ dutyTok ER (cell (prv c) cr) n false ∗ reached ER (cell (prv c) cr) n)
      ⊢ iprop((ow c a b (n + 1) -∗ wp frame (wpE (defs₀ (F := F)) Variants.none (c : Thread nD τ) none) Set.univ (k ⟨⟩) Q)
          -∗ wp frame (wpE (defs₀ (F := F)) Variants.none (c : Thread nD τ) none) Set.univ (.op (.semSignal (Dev.tc n₁) sm 1) k) Q) := by
  subst hss hnum
  exact signal_cr WV HV κ c s r hh a b hn hsm

end Wrappers

section Trip

/-- The semaphores of the two slots, as the kernel names them. -/
abbrev d0 (a : DmaSems sig S2) : DmaSem sig := ((a.slice (Rect.unit (s := S2) ![0] S1.size inb_S2_S1_0)).squeeze S_ squeezes_S1_S_).sem
abbrev d1 (a : DmaSems sig S2) : DmaSem sig := ((a.slice (Rect.unit (s := S2) ![1] S1.size inb_S2_S1_1)).squeeze S_ squeezes_S1_S_).sem

theorem row_even : ∀ (c : Dev nD) (t : Fin k0_t1_loop.trips), k0_off2 c t = ![(org c (2 * t.val + 1)).val, 0] := by
  intro c t
  rw [k0_off2_eq]
  have : t.val < 15 := lt_of_lt_of_eq t.isLt trips_eq
  have h : (c.val + 63 - 2 * t.val) % 32 = (org c (2 * t.val + 1)).val := by show _ = (c.val + 31 * (2 * t.val + 1)) % 32; omega
  exact congrArg (fun n : ℕ => ![n, 0]) h
theorem row_odd : ∀ (c : Dev nD) (t : Fin k0_t1_loop.trips), k0_off3 c t = ![(org c (2 * t.val + 1 + 1)).val, 0] := by
  intro c t
  rw [k0_off3_eq]
  have : t.val < 15 := lt_of_lt_of_eq t.isLt trips_eq
  have h : (c.val + 62 - 2 * t.val) % 32 = (org c (2 * t.val + 1 + 1)).val := by show _ = (c.val + 31 * (2 * t.val + 1 + 1)) % 32; omega
  exact congrArg (fun n : ℕ => ![n, 0]) h
theorem dev1 : (⟨k0_dev1 c, k0_dev1_lt c⟩ : Dev nD) = prv c := Fin.ext (k0_dev1_eq c)
theorem dev2 : (⟨k0_dev2 c, k0_dev2_lt c⟩ : Dev nD) = nxt c := Fin.ext (k0_dev2_eq c)
theorem dev3 : (⟨k0_dev3 c, k0_dev3_lt c⟩ : Dev nD) = prv c := Fin.ext (k0_dev3_eq c)
theorem dev4 : (⟨k0_dev4 c, k0_dev4_lt c⟩ : Dev nD) = nxt c := Fin.ext (k0_dev4_eq c)
theorem dev5 : (⟨k0_dev5 c, k0_dev5_lt c⟩ : Dev nD) = nxt c := Fin.ext (k0_dev5_eq c)
theorem dev6 : (⟨k0_dev6 c, k0_dev6_lt c⟩ : Dev nD) = prv c := Fin.ext (k0_dev6_eq c)
theorem dev7 : (⟨k0_dev7 c, k0_dev7_lt c⟩ : Dev nD) = nxt c := Fin.ext (k0_dev7_eq c)
theorem dev8 : (⟨k0_dev8 c, k0_dev8_lt c⟩ : Dev nD) = nxt c := Fin.ext (k0_dev8_eq c)
theorem dev9 : (⟨k0_dev9 c, k0_dev9_lt c⟩ : Dev nD) = prv c := Fin.ext (k0_dev9_eq c)
theorem dev10 : (⟨k0_dev10 c, k0_dev10_lt c⟩ : Dev nD) = nxt c := Fin.ext (k0_dev10_eq c)
theorem dev11 : (⟨k0_dev11 c, k0_dev11_lt c⟩ : Dev nD) = nxt c := Fin.ext (k0_dev11_eq c)
theorem stand_reached (k : Role) (r : ℕ) : stand (F := F) c k r ⊢ iprop(stand c k r ∗ reached ER (cell c k) r) := by
  unfold stand
  iintro ⟨H, #Hr⟩
  isplitl [H]
  · isplitl [H]; · iexact H
    iexact Hr
  iexact Hr
theorem acc_succ (x : Vec F S2048x512 .bf16) (e : Vec F S2048x1 .i32) (n : ℕ) :
    stepW (word (org c n)) x e (WV (org c n)) (acc WV c x e n) = acc WV c x e (n + 1) := rfl
theorem toInt_one : BitVec.toInt (1#32) = 1 := by decide

variable (arg0 : Memref sig .tc .vmem S2048x512 .bf16) (arg1 : Memref sig .tc .vmem S2048x1 .i32) (arg5 : Memref sig .tc .vmem S2048x1024 .f32)
  (q0 q1 : PosShare TreeShare) (x : Vec F S2048x512 .bf16) (e : Vec F S2048x1 .i32)

/-- What device `c` holds before trip `t`. -/
def trip (t : ℕ) : sProp 𝕄 :=
  iprop(env WV HV κ
    ∗ bigSep (Finset.Ico (2 * t) 31) (fun j => hopAt c j)
    ∗ bigSep (Finset.Ico (2 * t + 1) 31) (fun j => dutyTok ER (cell (prv c) cr) j false)
    ∗ stand c cr (2 * t)
    ∗ (stand c (ws 0) t ∗ stand c (hs 0) t ∗ stand c (wr 0) t ∗ stand c (hr 0) t)
    ∗ (stand c (ws 1) t ∗ stand c (hs 1) t ∗ stand c (wr 1) t ∗ stand c (hr 1) t)
    ∗ ow c (2 * t) (2 * t) (2 * t + 1)
    ∗ wOwn c 0 fullShare (WV (org c (2 * t))) ∗ hOwn c 0 (HV (org c (2 * t)))
    ∗ owns (c : Thread nD τ) arg0 q0 x ∗ owns (c : Thread nD τ) arg1 q1 e ∗ owns (c : Thread nD τ) arg5 fullShare (acc WV c x e (2 * t))
    ∗ tOwn HV c (2 * t + 1))

theorem trip_step (harg0 : arg0.IsWhole) (harg1 : arg1.IsWhole) (harg5 : arg5.IsWhole)
    {arg2 harg2 arg3 harg3 arg4 harg4 h6 h7 h8 v5 v7 v24} (t : Fin k0_t1_loop.trips) :
    trip WV HV κ c arg0 arg1 arg5 q0 q1 x e t.val ⊢
      wp frame (wpE (defs₀ (F := F)) Variants.none (c : Thread nD τ) none) Set.univ
        (k0_t1_body (F := F) arg0 harg0 arg1 harg1 arg2 harg2 arg3 harg3 arg4 harg4 arg5 harg5 wM h6 hM h7 tM h8
          cc0_scratch3 cc0_scratch4 cc0_scratch5 cc0_scratch6 cc0_scratch7 c (me c) v5 v7 v24 t ())
        (fun _ => trip WV HV κ c arg0 arg1 arg5 q0 q1 x e (t.val + 1)) := by
  have ht : t.val < 15 := lt_of_lt_of_eq t.isLt trips_eq
  unfold k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, toInt_one]
  obtain ⟨P, hP⟩ : ∃ P, P = trip WV HV κ c arg0 arg1 arg5 q0 q1 x e (t.val + 1) := ⟨_, rfl⟩
  rw [← hP]
  unfold trip
  rw [bigSep_peel (F := F) (fun j => hopAt c j) (show 2 * t.val < 31 by omega), bigSep_peel (F := F) (fun j => hopAt c j) (show 2 * t.val + 1 < 31 by omega),
    bigSep_peel (F := F) (fun j => dutyTok ER (cell (prv c) cr) j false) (show 2 * t.val + 1 < 31 by omega),
    bigSep_peel (F := F) (fun j => dutyTok ER (cell (prv c) cr) j false) (show 2 * t.val + 1 + 1 < 31 by omega)]
  iintro ⟨#He, ⟨Ha0, Ha1, Ha⟩, ⟨Ht1, Ht2, Ht⟩, Hcr, ⟨Hws0, Hhs0, Hwr0, Hhr0⟩, ⟨Hws1, Hhs1, Hwr1, Hhr1⟩, HO, Hw, Hh, Hx, Hi, Hacc, Htab⟩
  iapply (hop_start' WV HV κ c 0 1 rfl t.val (2 * t.val) 0 rfl (by omega) (n₁ := ⟨k0_dev4 c, k0_dev4_lt c⟩) (n₂ := ⟨k0_dev5 c, k0_dev5_lt c⟩)
    (dev4 c) (dev5 c) (sm := cc0_scratch7.sem) rfl
    (src := wSl 0) (dst := wSl 1) rfl rfl (sS := .dma (d0 cc0_scratch3)) (sR := .dma (d1 cc0_scratch4)) rfl rfl
    (src' := hSl 0) (dst' := hSl 1) rfl rfl (sS' := .dma (d0 cc0_scratch5)) (sR' := .dma (d1 cc0_scratch6)) rfl rfl) $$ [Ha0 Hcr Hws0 Hhs0 Hw Hh HO]
  · isplitl []; · iexact He
    isplitl [Ha0]; · iexact Ha0
    isplitl [Hcr]; · iexact Hcr
    isplitl [Hws0]; · iexact Hws0
    isplitl [Hhs0]; · iexact Hhs0
    isplitl [Hw]; · iexact Hw
    isplitl [Hh]; · iexact Hh
    iexact HO
  iintro ⟨Hm, Hcr, Hw⟩
  iapply (ld (F := F) c (m := arg5) (q := fullShare) (X := acc WV c x e (2 * t.val))) $$ Hacc; iintro Hacc
  iapply (ld_w0 (F := F) c (q := qK) (X := WV (org c (2 * t.val)))) $$ Hw; iintro Hw
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg5) (q := fullShare) (X := acc WV c x e (2 * t.val))) $$ Hacc; iintro Hacc
  rw [pay_even, even_word, acc_succ]
  iapply (st (F := F) c (m := arg5)) $$ Hacc; iintro Hacc
  iapply (hop_end' WV HV κ c 0 1 rfl t.val (2 * t.val) rfl (by omega)
    (d₁ := d0 cc0_scratch3) (d₂ := d1 cc0_scratch4) (d₃ := d0 cc0_scratch5) (d₄ := d1 cc0_scratch6) rfl rfl rfl rfl
    (a₁ := wSl 1) (b₁ := wSl 0) (a₂ := wSl 0) (b₂ := wSl 1) (a₃ := hSl 1) (b₃ := hSl 0) (a₄ := hSl 0) (b₄ := hSl 1)
    (wSl_credit 0) (wSl_credit 1) (hSl_credit 0) (hSl_credit 1)) $$ [Hm Hwr1 Hhr1 Hw]
  · isplitl []; · iexact He
    isplitl [Hm]; · iexact Hm
    isplitl [Hwr1]; · iexact Hwr1
    isplitl [Hhr1]; · iexact Hhr1
    iexact Hw
  iintro ⟨Hws0, Hhs0, Hwr1, Hhr1, HO, Hwo, Hho, Hw, Hh, #Hrc0⟩
  iapply (ld_h1 (F := F) c (X := HV (org c (2 * t.val + 1)))) $$ Hh; iintro Hh
  iapply (ld_row (F := F) HV c (n := 2 * t.val + 1)) $$ Htab; iintro Htab
  rw [pay_row₁]
  iapply (st_row HV c (n := 2 * t.val + 1) (by omega) (off := k0_off2 c t) (row_even c t) (w := HV (org c (2 * t.val + 1))) rfl) $$ Htab; iintro Htab
  ihave Hwr0 := (stand_reached (F := F) c (wr 0) _) $$ Hwr0
  icases Hwr0 with ⟨Hwr0, #Hrw0⟩
  ihave Hhr0 := (stand_reached (F := F) c (hr 0) _) $$ Hhr0
  icases Hhr0 with ⟨Hhr0, #Hrh0⟩
  iapply (signal_cr' WV HV κ c 1 0 rfl (t.val) (2 * t.val + 1) rfl (by omega) (2 * t.val + 1) (2 * t.val + 1) (n₁ := ⟨k0_dev6 c, k0_dev6_lt c⟩) (dev6 c)
    (sm := cc0_scratch7.sem) rfl) $$ [Hwo Hho HO Ht1]
  · isplitl []; · iexact He
    isplitl [Hwo]; · iexists _; iexact Hwo
    isplitl [Hho]; · iexists _; iexact Hho
    isplitl []; · iexact Hrw0
    isplitl []; · iexact Hrh0
    isplitl [HO]; · iexact HO
    isplitl [Ht1]; · iexact Ht1
    iexact Hrc0
  iintro HO
  iapply (hop_start' WV HV κ c 1 0 rfl t.val (2 * t.val + 1) 0 rfl (by omega) (n₁ := ⟨k0_dev7 c, k0_dev7_lt c⟩) (n₂ := ⟨k0_dev8 c, k0_dev8_lt c⟩)
    (dev7 c) (dev8 c) (sm := cc0_scratch7.sem) rfl
    (src := wSl 1) (dst := wSl 0) rfl rfl (sS := .dma (d1 cc0_scratch3)) (sR := .dma (d0 cc0_scratch4)) rfl rfl
    (src' := hSl 1) (dst' := hSl 0) rfl rfl (sS' := .dma (d1 cc0_scratch5)) (sR' := .dma (d0 cc0_scratch6)) rfl rfl) $$ [Ha1 Hcr Hws1 Hhs1 Hw Hh HO]
  · isplitl []; · iexact He
    isplitl [Ha1]; · iexact Ha1
    isplitl [Hcr]; · iexact Hcr
    isplitl [Hws1]; · iexact Hws1
    isplitl [Hhs1]; · iexact Hhs1
    isplitl [Hw]; · iexact Hw
    isplitl [Hh]; · iexact Hh
    iexact HO
  iintro ⟨Hm, Hcr, Hw⟩
  iapply (ld (F := F) c (m := arg5) (q := fullShare) (X := acc WV c x e (2 * t.val + 1))) $$ Hacc; iintro Hacc
  iapply (ld_w1 (F := F) c (q := qK) (X := WV (org c (2 * t.val + 1)))) $$ Hw; iintro Hw
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg5) (q := fullShare) (X := acc WV c x e (2 * t.val + 1))) $$ Hacc; iintro Hacc
  rw [pay_odd, odd_word, acc_succ]
  iapply (st (F := F) c (m := arg5)) $$ Hacc; iintro Hacc
  iapply (hop_end' WV HV κ c 1 0 rfl t.val (2 * t.val + 1) rfl (by omega)
    (d₁ := d1 cc0_scratch3) (d₂ := d0 cc0_scratch4) (d₃ := d1 cc0_scratch5) (d₄ := d0 cc0_scratch6) rfl rfl rfl rfl
    (a₁ := wSl 0) (b₁ := wSl 1) (a₂ := wSl 1) (b₂ := wSl 0) (a₃ := hSl 0) (b₃ := hSl 1) (a₄ := hSl 1) (b₄ := hSl 0)
    (wSl_credit 1) (wSl_credit 0) (hSl_credit 1) (hSl_credit 0)) $$ [Hm Hwr0 Hhr0 Hw]
  · isplitl []; · iexact He
    isplitl [Hm]; · iexact Hm
    isplitl [Hwr0]; · iexact Hwr0
    isplitl [Hhr0]; · iexact Hhr0
    iexact Hw
  iintro ⟨Hws1, Hhs1, Hwr0, Hhr0, HO, Hwo, Hho, Hw, Hh, #Hrc1⟩
  iapply (ld_h0 (F := F) c (X := HV (org c (2 * t.val + 1 + 1)))) $$ Hh; iintro Hh
  iapply (ld_row (F := F) HV c (n := 2 * t.val + 1 + 1)) $$ Htab; iintro Htab
  rw [pay_row₂]
  iapply (st_row HV c (n := 2 * t.val + 1 + 1) (by omega) (off := k0_off3 c t) (row_odd c t) (w := HV (org c (2 * t.val + 1 + 1))) rfl) $$ Htab; iintro Htab
  ihave Hwr1 := (stand_reached (F := F) c (wr 1) _) $$ Hwr1
  icases Hwr1 with ⟨Hwr1, #Hrw1⟩
  ihave Hhr1 := (stand_reached (F := F) c (hr 1) _) $$ Hhr1
  icases Hhr1 with ⟨Hhr1, #Hrh1⟩
  iapply (signal_cr' WV HV κ c 0 1 rfl (t.val + 1) (2 * t.val + 1 + 1) (by show _ = 2 * (t.val + 1) + 0; omega) (by omega) (2 * t.val + 1 + 1) (2 * t.val + 1 + 1) (n₁ := ⟨k0_dev9 c, k0_dev9_lt c⟩) (dev9 c)
    (sm := cc0_scratch7.sem) rfl) $$ [Hwo Hho HO Ht2]
  · isplitl []; · iexact He
    isplitl [Hwo]; · iexists _; iexact Hwo
    isplitl [Hho]; · iexists _; iexact Hho
    isplitl []; · iexact Hrw1
    isplitl []; · iexact Hrh1
    isplitl [HO]; · iexact HO
    isplitl [Ht2]; · iexact Ht2
    iexact Hrc1
  iintro HO
  rw [wp_ret]; imodintro
  subst hP
  unfold trip
  rw [show 2 * (t.val + 1) = 2 * t.val + 1 + 1 from by omega]
  isplitl []; · iexact He
  isplitl [Ha]; · iexact Ha
  isplitl [Ht]; · iexact Ht
  isplitl [Hcr]; · iexact Hcr
  isplitl [Hws0 Hhs0 Hwr0 Hhr0]
  · isplitl [Hws0]; · iexact Hws0
    isplitl [Hhs0]; · iexact Hhs0
    isplitl [Hwr0]; · iexact Hwr0
    iexact Hhr0
  isplitl [Hws1 Hhs1 Hwr1 Hhr1]
  · isplitl [Hws1]; · iexact Hws1
    isplitl [Hhs1]; · iexact Hhs1
    isplitl [Hwr1]; · iexact Hwr1
    iexact Hhr1
  isplitl [HO]; · iexact HO
  isplitl [Hw]; · iexact Hw
  isplitl [Hh]; · iexact Hh
  isplitl [Hx]; · iexact Hx
  isplitl [Hi]; · iexact Hi
  isplitl [Hacc]; · iexact Hacc
  iexact Htab

end Trip

end Cert.Moe

end
-- ==== Proof.Body.lean ====
/-
# The kernel's body

The body, from what a device holds when the kernel's region opens to what it holds when it closes.
-/
module

public import proofs.«01_k».proof.Proof.Trip

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role
open Idealize.ShloMosaic.ValueIdx

variable {F : FTy → Type} [FloatOps F]

local notation "𝕄" => MT nD τ sig ℕ (Elt F) ℕ UU ℕ

variable (WV : Dev nD → Vec F S4x512x1024 .bf16) (HV : Dev nD → Vec F S1x128 .i32) (κ : GSem nD τ sig → ℕ) (c : Dev nD)

section Bar

/-- The unit for the device before: nothing comes with it. -/
theorem signal_left {n : Dev nD} (hn : n = prv c) {sm : Sem sig} (hsm : SemLoc.reg sm = semOf bar)
    {α : Type} {Q : α → sProp 𝕄} {k : PUnit → Prog (TpuEff nD τ sig (Elt F) Λ₀ .tc) α} :
    iprop(env WV HV κ ∗ (∃ W, owes (c : Thread nD τ) (O₀ c) W) ∗ dutyTok ER (cell (prv c) bar) 0 false ∗ reached ER (cell (prv c) bar) 0)
      ⊢ iprop(((∃ W, owes (c : Thread nD τ) (O₁ c + tallyAt (cell (nxt c) bar) 0 1) W)
            -∗ wp frame (wpE (defs₀ (F := F)) Variants.none (c : Thread nD τ) none) Set.univ (k ⟨⟩) Q)
          -∗ wp frame (wpE (defs₀ (F := F)) Variants.none (c : Thread nD τ) none) Set.univ (.op (.semSignal (Dev.tc n) sm 1) k) Q) := by
  subst hn
  obtain rfl : sm = (1 : Sem sig) := by injection hsm
  unfold env
  iintro ⟨⟨#Hi, #Hl⟩, ⟨%W, HO⟩, Ht, #Hr⟩ Hk
  ihave #Hi₁ := (invs_get WV HV κ (prv c) bar) $$ Hi
  iapply (Rounds.wp_signal Variants.none ER (Rd WV HV) (c : Thread nD τ) none (dst := ((prv c : Dev nD) : Thread nD τ))
      (sem := (1 : Sem sig)) (r := 0) (d := false) (κ := κ (cell (prv c) bar))
      (by show false ∈ (Rd WV HV).duties (cell (prv c) bar) _; rw [Rd_duties]; exact Finset.mem_univ _)
      (Rd_amount WV HV (prv c) bar _ false) 0 (O₁ c + tallyAt (cell (nxt c) bar) 0 1) rfl) $$ [HO Ht]
  · isplitl []; · iexact Hi₁
    isplitl [HO]; · iexact HO
    isplitl [Ht]; · iexact Ht
    isplitl []
    · rw [show (Rd WV HV).payload (((prv c : Dev nD) : Thread nD τ), SemLoc.reg (1 : Sem sig)) 0 false = iprop(emp) from
        (Rd_payload WV HV (prv c) bar 0 false).trans rfl]
      iempintro
    iexact Hr
  iintro HO
  iapply Hk
  iexists W; iexact HO

/-- The unit for the next device: that this one may be given credit. -/
theorem signal_right {n : Dev nD} (hn : n = nxt c) {sm : Sem sig} (hsm : SemLoc.reg sm = semOf bar)
    {α : Type} {Q : α → sProp 𝕄} {k : PUnit → Prog (TpuEff nD τ sig (Elt F) Λ₀ .tc) α} :
    iprop(env WV HV κ ∗ (∃ W, owes (c : Thread nD τ) (O₁ c + tallyAt (cell (nxt c) bar) 0 1) W) ∗ dutyTok ER (cell (nxt c) bar) 0 true
        ∗ reached ER (cell (nxt c) bar) 0 ∗ reached ER (cell c cr) 0)
      ⊢ iprop((ow c 0 0 0
            -∗ wp frame (wpE (defs₀ (F := F)) Variants.none (c : Thread nD τ) none) Set.univ (k ⟨⟩) Q)
          -∗ wp frame (wpE (defs₀ (F := F)) Variants.none (c : Thread nD τ) none) Set.univ (.op (.semSignal (Dev.tc n) sm 1) k) Q) := by
  subst hn
  obtain rfl : sm = (1 : Sem sig) := by injection hsm
  unfold env ow
  iintro ⟨⟨#Hi, #Hl⟩, ⟨%W, HO⟩, Ht, #Hr, #Hc⟩ Hk
  ihave #Hi₁ := (invs_get WV HV κ (nxt c) bar) $$ Hi
  iapply (Rounds.wp_signal Variants.none ER (Rd WV HV) (c : Thread nD τ) none (dst := ((nxt c : Dev nD) : Thread nD τ))
      (sem := (1 : Sem sig)) (r := 0) (d := true) (κ := κ (cell (nxt c) bar))
      (by show true ∈ (Rd WV HV).duties (cell (nxt c) bar) _; rw [Rd_duties]; exact Finset.mem_univ _)
      (Rd_amount WV HV (nxt c) bar _ true) 0 (O₁ c) rfl) $$ [HO Ht]
  · isplitl []; · iexact Hi₁
    isplitl [HO]; · iexact HO
    isplitl [Ht]; · iexact Ht
    isplitl []
    · rw [show (Rd WV HV).payload (((nxt c : Dev nD) : Thread nD τ), SemLoc.reg (1 : Sem sig)) 0 true = reached ER (cell (prv (nxt c)) cr) 0 from
        (Rd_payload WV HV (nxt c) bar 0 true).trans rfl, prv_nxt]
      iexact Hc
    iexact Hr
  iintro HO
  iapply Hk
  iexists W; iexact HO

theorem wait_bar {sm : Sem sig} (hsm : sm = (1 : Sem sig))
    {α : Type} {Q : α → sProp 𝕄} {k : PUnit → Prog (TpuEff nD τ sig (Elt F) Λ₀ .tc) α} :
    iprop(env WV HV κ ∗ cred (tallyAt (cell c bar) 0 2) ∗ ow c 0 0 0 ∗ atPos ER (cell c bar) 0 ∅ 0)
      ⊢ iprop(((ow c 0 0 0 ∗ atPos ER (cell c bar) 1 ∅ 0 ∗ reached ER (cell (prv c) cr) 0)
            -∗ wp frame (wpE (defs₀ (F := F)) Variants.none (c : Thread nD τ) none) Set.univ (k ⟨⟩) Q)
          -∗ wp frame (wpE (defs₀ (F := F)) Variants.none (c : Thread nD τ) none) Set.univ (.op (.semWait sm 2) k) Q) := by
  subst hsm
  unfold env ow
  iintro ⟨⟨#Hi, #Hl⟩, Hc, ⟨%W, HO⟩, Hp⟩ Hk
  ihave #Hi₁ := (invs_get WV HV κ c bar) $$ Hi
  ihave Hm := (mayWait (F := F) c (semOf bar) 0 0 0 0 (by decide) (by rw [lv_cell]; show 1 < 3; decide) (by rw [lv_cell]; show 1 < 3; decide)
    (by rw [lv_cell]; show 1 < 2; decide)) $$ Hl
  iapply (Rounds.wp_wait_rest_token Variants.none ER (Rd WV HV) (c : Thread nD τ) none (κ := κ (cell c bar))
      (wpE_semWait_eq (defs := defs₀ (F := F)) (sem := (1 : Sem sig)) (k := 2) Variants.none (c : Thread nD τ) none Set.univ) (Set.mem_univ _) 0
      (R := 0) (m := 0) (T := ∅) (by rw [Nat.zero_add]; exact (expect_bar WV HV c).symm)) $$ [Hc HO Hm Hp]
  · isplitl []; · iexact Hi₁
    isplitl [Hc]; · iexact Hc
    isplitl [HO]; · iexact HO
    isplitl [Hm]; · iexact Hm
    iexact Hp
  iintro ⟨HO, Hp, -, Hpay⟩
  ihave Hpay := (show (bigSep ((Rd WV HV).duties ((c : Thread nD τ), SemLoc.reg (1 : Sem sig)) 0 \ ∅) fun d => (Rd WV HV).payload ((c : Thread nD τ), SemLoc.reg (1 : Sem sig)) 0 d : sProp 𝕄)
      ⊢ iprop(emp ∗ reached ER (cell (prv c) cr) 0) from Entails.of_eq (rest_bar WV HV c)) $$ Hpay
  icases Hpay with ⟨-, Hpay⟩
  iapply Hk
  isplitl [HO]; · iexists _; iexact HO
  isplitl [Hp]; · iexact Hp
  iexact Hpay

/-- A cell past its last round gives its counter back, at zero. -/
theorem close_at (kk : Role) {r : ℕ} (h : lastRound kk ≤ r) :
    iprop(env WV HV κ ∗ atPos ER (cell c kk) r ∅ 0) ⊢ (|={Set.univ}=> semVal (cell c kk) 0 : sProp 𝕄) := by
  unfold env
  iintro ⟨⟨#Hi, -⟩, Hp⟩
  ihave #Hi₁ := (invs_get WV HV κ c kk) $$ Hi
  iapply (Rounds.cell_close ER (Rd WV HV) (Set.mem_univ (κ (cell c kk))) id fun r' hr => by
    show (Rd WV HV).duties (cell c kk) r' = ∅
    rw [Rd_duties]; exact dutiesR_later kk r' (le_trans h hr))
  isplitl []; · iexact Hi₁
  iexact Hp

theorem close (kk : Role) {r : ℕ} (h : lastRound kk ≤ r) :
    iprop(env WV HV κ ∗ stand c kk r) ⊢ (|={Set.univ}=> semVal (cell c kk) 0 : sProp 𝕄) := by
  unfold stand
  iintro ⟨He, Hp, -⟩
  iapply (close_at WV HV κ c kk h)
  isplitl [He]; · iexact He
  iexact Hp

/-- After the last hop nothing is owed. -/
theorem ow_end : ow (F := F) c 31 31 31 ⊢ iprop(∃ W, owes (c : Thread nD τ) 0 W) := by
  unfold ow
  rw [OW_end, OH_end, OC_end, add_zero, add_zero]

end Bar

/-- The table of counts when every row has come. -/
def tab : Vec F S32x128 .i32 := fun i => HV (i 0) (ix2 (0 : Fin 1) (i 1))

theorem rows_all (X : Vec F S32x128 .i32) (h : Rows HV c 32 X) : X = tab HV := by
  funext i
  have hc : (i 0).val < 32 := (i 0).isLt
  have hc' : c.val < 32 := c.isLt
  obtain ⟨j, hj, hjc⟩ : ∃ j < 32, org c j = (i 0 : Fin 32) := by
    refine ⟨(c.val + 32 - (i 0).val) % 32, Nat.mod_lt _ (by decide), Fin.ext ?_⟩
    show (c.val + 31 * ((c.val + 32 - (i 0).val) % 32)) % 32 = (i 0).val
    omega
  have := h j hj (i 1)
  rw [hjc] at this
  rw [show i = ix2 (i 0) (i 1) from funext fun a => by fin_cases a <;> rfl]
  exact this

theorem rows_whole : tOwn HV c 32 ⊢ owns (c : Thread nD τ) tM fullShare (tab HV) := by
  unfold tOwn
  iintro ⟨%X, %hX, H⟩
  rw [rows_all HV c X hX]
  iexact H

theorem row_first (c : Dev nD) : k0_off1 c = ![(org c 0).val, 0] := by rw [k0_off1_eq, org_zero]
theorem row_last (c : Dev nD) : k0_off4 c = ![(org c 31).val, 0] := by
  rw [k0_off4_eq]
  have h : (c.val + 33) % 32 = (org c 31).val := by show _ = (c.val + 31 * 31) % 32; omega
  exact congrArg (fun n : ℕ => ![n, 0]) h

theorem toInt_two : BitVec.toInt (2#32) = 2 := by decide

section Body

variable (arg0 : Memref sig .tc .vmem S2048x512 .bf16) (arg1 : Memref sig .tc .vmem S2048x1 .i32) (arg2 : Memref sig .tc .vmem S4x512x1024 .bf16)
  (arg3 : Memref sig .tc .vmem S1x128 .i32) (arg4 : Memref sig .tc .vmem S2048x1 .f32) (arg5 : Memref sig .tc .vmem S2048x1024 .f32)
  (q0 q1 q2 q3 q4 : PosShare TreeShare) (x : Vec F S2048x512 .bf16) (e : Vec F S2048x1 .i32) (rk : Vec F S2048x1 .f32)

theorem trip_first :
    iprop(env WV HV κ
    ∗ bigSep (Finset.Ico 0 31) (fun j => hopAt c j)
    ∗ bigSep (Finset.Ico 1 31) (fun j => dutyTok ER (cell (prv c) cr) j false)
    ∗ stand c cr 0
    ∗ (stand c (ws 0) 0 ∗ stand c (hs 0) 0 ∗ stand c (wr 0) 0 ∗ stand c (hr 0) 0)
    ∗ (stand c (ws 1) 0 ∗ stand c (hs 1) 0 ∗ stand c (wr 1) 0 ∗ stand c (hr 1) 0)
    ∗ ow c 0 0 1
    ∗ wOwn c 0 fullShare (WV c) ∗ hOwn c 0 (HV c)
    ∗ owns (c : Thread nD τ) arg0 q0 x ∗ owns (c : Thread nD τ) arg1 q1 e ∗ owns (c : Thread nD τ) arg5 fullShare k0_pay21
    ∗ tOwn HV c 1) ⊢ trip WV HV κ c arg0 arg1 arg5 q0 q1 x e 0 := by
  unfold trip
  rw [show org c (2 * 0) = c from org_zero c]
  exact Entails.refl _

theorem trip_last : trip WV HV κ c arg0 arg1 arg5 q0 q1 x e k0_t1_loop.trips ⊢
    iprop(hopAt c 30 ∗ stand c cr 30
    ∗ (stand c (ws 0) 15 ∗ stand c (hs 0) 15 ∗ stand c (wr 0) 15 ∗ stand c (hr 0) 15)
    ∗ (stand c (ws 1) 15 ∗ stand c (hs 1) 15 ∗ stand c (wr 1) 15 ∗ stand c (hr 1) 15)
    ∗ ow c 30 30 31
    ∗ wOwn c 0 fullShare (WV (org c 30)) ∗ hOwn c 0 (HV (org c 30))
    ∗ owns (c : Thread nD τ) arg0 q0 x ∗ owns (c : Thread nD τ) arg1 q1 e ∗ owns (c : Thread nD τ) arg5 fullShare (acc WV c x e 30)
    ∗ tOwn HV c 31) := by
  rw [trips_eq]
  unfold trip
  rw [bigSep_peel (F := F) (fun j => hopAt c j) (show 2 * 15 < 31 by decide)]
  iintro ⟨-, ⟨Ha, -⟩, -, Hcr, H0, H1, HO, Hw, Hh, Hx, Hi, Hacc, Htab⟩
  isplitl [Ha]; · iexact Ha
  isplitl [Hcr]; · iexact Hcr
  isplitl [H0]; · iexact H0
  isplitl [H1]; · iexact H1
  isplitl [HO]; · iexact HO
  isplitl [Hw]; · iexact Hw
  isplitl [Hh]; · iexact Hh
  isplitl [Hx]; · iexact Hx
  isplitl [Hi]; · iexact Hi
  isplitl [Hacc]; · iexact Hacc
  iexact Htab

/-- The kernel's result on device `c`. -/
def res : Vec F S2048x1024 .f32 := k0_pay1 (me c) (tab HV) e rk (acc WV c x e 32)

/-- The protocol's part of what device `c` holds when its scoped cells have been opened. -/
def talkIn : sProp 𝕄 :=
  iprop(env WV HV κ
    ∗ atPos ER (cell c bar) 0 ∅ 0 ∗ reached ER (cell (nxt c) bar) 0 ∗ reached ER (cell (prv c) bar) 0
    ∗ dutyTok ER (cell (nxt c) bar) 0 true ∗ dutyTok ER (cell (prv c) bar) 0 false ∗ cred (tallyAt (cell c bar) 0 2)
    ∗ bigSep (Finset.Ico 0 31) (fun j => hopAt c j)
    ∗ bigSep (Finset.Ico 0 31) (fun j => dutyTok ER (cell (prv c) cr) j false)
    ∗ stand c cr 0
    ∗ (stand c (ws 0) 0 ∗ stand c (hs 0) 0 ∗ stand c (wr 0) 0 ∗ stand c (hr 0) 0)
    ∗ (stand c (ws 1) 0 ∗ stand c (hs 1) 0 ∗ stand c (wr 1) 0 ∗ stand c (hr 1) 0))

/-- The scoped counters, back at zero. -/
def zeros : sProp 𝕄 :=
  iprop(semVal (cell c cr) 0 ∗ (semVal (cell c (ws 0)) 0 ∗ semVal (cell c (hs 0)) 0 ∗ semVal (cell c (wr 0)) 0 ∗ semVal (cell c (hr 0)) 0)
    ∗ (semVal (cell c (ws 1)) 0 ∗ semVal (cell c (hs 1)) 0 ∗ semVal (cell c (wr 1)) 0 ∗ semVal (cell c (hr 1)) 0))

/-- The scratch buffers, at contents not chosen. -/
def scratch : sProp 𝕄 :=
  iprop((∃ X, wOwn c 0 fullShare X) ∗ (∃ X, wOwn c 1 fullShare X) ∗ (∃ X, hOwn c 0 X) ∗ (∃ X, hOwn c 1 X)
    ∗ ∃ X, owns (c : Thread nD τ) tM fullShare X)

theorem body_run (harg0 : arg0.IsWhole) (harg1 : arg1.IsWhole) (harg2 : arg2.IsWhole) (harg3 : arg3.IsWhole) (harg4 : arg4.IsWhole) (harg5 : arg5.IsWhole)
    {h6 h7 h8} {Q : PUnit → sProp 𝕄} :
    iprop(talkIn WV HV κ c ∗ (∃ W, owes (c : Thread nD τ) (O₀ c) W) ∗ scratch c
        ∗ owns (c : Thread nD τ) arg0 q0 x ∗ owns (c : Thread nD τ) arg1 q1 e ∗ owns (c : Thread nD τ) arg2 q2 (WV c)
        ∗ owns (c : Thread nD τ) arg3 q3 (HV c) ∗ owns (c : Thread nD τ) arg4 q4 rk ∗ ∃ X, owns (c : Thread nD τ) arg5 fullShare X)
      ⊢ iprop(((semVal (cell c bar) 0 ∗ zeros c ∗ (∃ W, owes (c : Thread nD τ) 0 W) ∗ scratch c
            ∗ owns (c : Thread nD τ) arg0 q0 x ∗ owns (c : Thread nD τ) arg1 q1 e ∗ owns (c : Thread nD τ) arg2 q2 (WV c)
            ∗ owns (c : Thread nD τ) arg3 q3 (HV c) ∗ owns (c : Thread nD τ) arg4 q4 rk
            ∗ owns (c : Thread nD τ) arg5 fullShare (res WV HV c x e rk)) -∗ Q ⟨⟩)
        -∗ wp frame (wpE (defs₀ (F := F)) Variants.none (c : Thread nD τ) none) Set.univ
        (cc0_body (F := F) arg0 harg0 arg1 harg1 arg2 harg2 arg3 harg3 arg4 harg4 arg5 harg5 wM h6 hM h7 tM h8
          cc0_scratch3 cc0_scratch4 cc0_scratch5 cc0_scratch6 cc0_scratch7) Q) := by
  rw [cc0_body_eq_skeleton]
  unfold cc0_body_skel
  simp only [k0_part9_eq_skeleton, k0_part10_eq_skeleton, k0_part11_eq_skeleton, k0_part12_eq_skeleton, k0_part13_eq_skeleton, k0_part14_eq_skeleton,
    k0_part15_eq_skeleton]
  unfold k0_part9_skel k0_part10_skel k0_part11_skel k0_part12_skel k0_part13_skel k0_part14_skel k0_part15_skel
  simp only [semSignalWord, semWaitWord, Prog.lift, Prog.bind_op, Prog.bind_ret, Prog.pure_eq_ret, Prog.bind_assoc, wp_deviceId, toInt_one, toInt_two]
  rw [show Scalar.remsi (Scalar.divsi (Dev.word c) 1#32) 32#32 = me c from rfl]
  unfold talkIn scratch
  rw [bigSep_peel (F := F) (fun j => dutyTok ER (cell (prv c) cr) j false) (show 0 < 31 by decide)]
  iintro ⟨⟨#He, Hpb, #Hrn, #Hrp, Htn, Htp, Hcb, Ha, ⟨Ht0, Ht⟩, Hcr, ⟨Hws0, Hhs0, Hwr0, Hhr0⟩, ⟨Hws1, Hhs1, Hwr1, Hhr1⟩⟩, HO,
    ⟨⟨%Xw0, Hw⟩, ⟨%Xw1, Hwo⟩, ⟨%Xh0, Hh⟩, ⟨%Xh1, Hho⟩, ⟨%Xt, Htab⟩⟩, Hx, Hi, HW, HH, Hrk, ⟨%Xa, Hacc⟩⟩ HQ
  ihave Hcr := (stand_reached (F := F) c cr _) $$ Hcr
  icases Hcr with ⟨Hcr, #Hrcr⟩
  iapply (signal_left WV HV κ c (dev1 c) (sm := (SemArray.scalar (sig.barrier 0 rfl)).sem) rfl) $$ [HO Htp]
  · isplitl []; · iexact He
    isplitl [HO]; · iexact HO
    isplitl [Htp]; · iexact Htp
    iexact Hrp
  iintro HO
  iapply (signal_right WV HV κ c (dev2 c) (sm := (SemArray.scalar (sig.barrier 0 rfl)).sem) rfl) $$ [HO Htn]
  · isplitl []; · iexact He
    isplitl [HO]; · iexact HO
    isplitl [Htn]; · iexact Htn
    isplitl []; · iexact Hrn
    iexact Hrcr
  iintro HO
  iapply (wait_bar WV HV κ c (sm := (SemArray.scalar (sig.barrier 0 rfl)).sem) rfl) $$ [HO Hcb Hpb]
  · isplitl []; · iexact He
    isplitl [Hcb]; · iexact Hcb
    isplitl [HO]; · iexact HO
    iexact Hpb
  iintro ⟨HO, Hpb, #Hrpc⟩
  iapply (ld (F := F) c (m := arg2) (q := q2) (X := WV c)) $$ HW; iintro HW
  iapply (ld_w0 (F := F) c (q := fullShare) (X := Xw0)) $$ Hw; iintro Hw
  rw [pay_w]
  iapply (st_w0 (F := F) c (X := Xw0) (X' := WV c)) $$ Hw; iintro Hw
  iapply (ld (F := F) c (m := arg3) (q := q3) (X := HV c)) $$ HH; iintro HH
  iapply (ld_h0 (F := F) c (X := Xh0)) $$ Hh; iintro Hh
  rw [pay_h]
  iapply (st_h0 (F := F) c (X := Xh0) (X' := HV c)) $$ Hh; iintro Hh
  iapply (ld (F := F) c (m := arg3) (q := q3) (X := HV c)) $$ HH; iintro HH
  ihave Htab := (show (owns (c : Thread nD τ) tM fullShare Xt : sProp 𝕄) ⊢ tOwn HV c 0 from by
    unfold tOwn; iintro H; iexists Xt; isplitr
    · ipureintro; intro j hj; exact absurd hj (Nat.not_lt_zero j)
    · iexact H) $$ Htab
  iapply (ld_row (F := F) HV c (n := 0)) $$ Htab; iintro Htab
  rw [pay_row₀]
  iapply (st_row HV c (n := 0) (by decide) (off := k0_off1 c) (row_first c) (w := HV c) (by rw [org_zero])) $$ Htab; iintro Htab
  iapply (ld (F := F) c (m := arg5) (q := fullShare) (X := Xa)) $$ Hacc; iintro Hacc
  iapply (st (F := F) c (m := arg5)) $$ Hacc; iintro Hacc
  ihave Hwr1 := (stand_reached (F := F) c (wr 1) _) $$ Hwr1
  icases Hwr1 with ⟨Hwr1, #Hrw1⟩
  ihave Hhr1 := (stand_reached (F := F) c (hr 1) _) $$ Hhr1
  icases Hhr1 with ⟨Hhr1, #Hrh1⟩
  iapply (signal_cr' WV HV κ c 0 1 rfl 0 0 rfl (by decide) 0 0 (n₁ := ⟨k0_dev3 c, k0_dev3_lt c⟩) (dev3 c) (sm := cc0_scratch7.sem) rfl) $$ [Hwo Hho HO Ht0]
  · isplitl []; · iexact He
    isplitl [Hwo]; · iexists _; iexact Hwo
    isplitl [Hho]; · iexists _; iexact Hho
    isplitl []; · iexact Hrw1
    isplitl []; · iexact Hrh1
    isplitl [HO]; · iexact HO
    isplitl [Ht0]; · iexact Ht0
    iexact Hrpc
  iintro HO
  iapply (Scf.wp_for_bind frame (wpE (defs₀ (F := F)) Variants.none (c : Thread nD τ) none) Set.univ _ _ _ k0_t1_ok ⟨⟩ _
    (fun t _ => trip WV HV κ c arg0 arg1 arg5 q0 q1 x e t) (fun t _ => trip_step WV HV κ c arg0 arg1 arg5 q0 q1 x e harg0 harg1 harg5 t))
    $$ [Ha Ht Hcr Hws0 Hhs0 Hwr0 Hhr0 Hws1 Hhs1 Hwr1 Hhr1 HO Hw Hh Hx Hi Hacc Htab]
  · iapply (trip_first WV HV κ c arg0 arg1 arg5 q0 q1 x e)
    isplitl []; · iexact He
    isplitl [Ha]; · iexact Ha
    isplitl [Ht]; · iexact Ht
    isplitl [Hcr]; · iexact Hcr
    isplitl [Hws0 Hhs0 Hwr0 Hhr0]
    · isplitl [Hws0]; · iexact Hws0
      isplitl [Hhs0]; · iexact Hhs0
      isplitl [Hwr0]; · iexact Hwr0
      iexact Hhr0
    isplitl [Hws1 Hhs1 Hwr1 Hhr1]
    · isplitl [Hws1]; · iexact Hws1
      isplitl [Hhs1]; · iexact Hhs1
      isplitl [Hwr1]; · iexact Hwr1
      iexact Hhr1
    isplitl [HO]; · iexact HO
    isplitl [Hw]; · iexact Hw
    isplitl [Hh]; · iexact Hh
    isplitl [Hx]; · iexact Hx
    isplitl [Hi]; · iexact Hi
    isplitl [Hacc]; · iexact Hacc
    iexact Htab
  iintro %_ Hend
  ihave Hend := (trip_last WV HV κ c arg0 arg1 arg5 q0 q1 x e) $$ Hend
  icases Hend with ⟨Ha, Hcr, ⟨Hws0, Hhs0, Hwr0, Hhr0⟩, ⟨Hws1, Hhs1, Hwr1, Hhr1⟩, HO, Hw, Hh, Hx, Hi, Hacc, Htab⟩
  iapply (hop_start' WV HV κ c 0 1 rfl 15 30 0 rfl (by decide) (n₁ := ⟨k0_dev10 c, k0_dev10_lt c⟩) (n₂ := ⟨k0_dev11 c, k0_dev11_lt c⟩)
    (dev10 c) (dev11 c) (sm := cc0_scratch7.sem) rfl
    (src := wSl 0) (dst := wSl 1) rfl rfl (sS := .dma (d0 cc0_scratch3)) (sR := .dma (d1 cc0_scratch4)) rfl rfl
    (src' := hSl 0) (dst' := hSl 1) rfl rfl (sS' := .dma (d0 cc0_scratch5)) (sR' := .dma (d1 cc0_scratch6)) rfl rfl) $$ [Ha Hcr Hws0 Hhs0 Hw Hh HO]
  · isplitl []; · iexact He
    isplitl [Ha]; · iexact Ha
    isplitl [Hcr]; · iexact Hcr
    isplitl [Hws0]; · iexact Hws0
    isplitl [Hhs0]; · iexact Hhs0
    isplitl [Hw]; · iexact Hw
    isplitl [Hh]; · iexact Hh
    iexact HO
  iintro ⟨Hm, Hcr, Hw⟩
  iapply (ld (F := F) c (m := arg5) (q := fullShare) (X := acc WV c x e (30))) $$ Hacc; iintro Hacc
  iapply (ld_w0 (F := F) c (q := qK) (X := WV (org c 30))) $$ Hw; iintro Hw
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg5) (q := fullShare) (X := acc WV c x e (30))) $$ Hacc; iintro Hacc
  rw [pay_last, last_word, acc_succ]
  iapply (st (F := F) c (m := arg5)) $$ Hacc; iintro Hacc
  iapply (hop_end' WV HV κ c 0 1 rfl 15 30 rfl (by decide)
    (d₁ := d0 cc0_scratch3) (d₂ := d1 cc0_scratch4) (d₃ := d0 cc0_scratch5) (d₄ := d1 cc0_scratch6) rfl rfl rfl rfl
    (a₁ := wSl 1) (b₁ := wSl 0) (a₂ := wSl 0) (b₂ := wSl 1) (a₃ := hSl 1) (b₃ := hSl 0) (a₄ := hSl 0) (b₄ := hSl 1)
    (wSl_credit 0) (wSl_credit 1) (hSl_credit 0) (hSl_credit 1)) $$ [Hm Hwr1 Hhr1 Hw]
  · isplitl []; · iexact He
    isplitl [Hm]; · iexact Hm
    isplitl [Hwr1]; · iexact Hwr1
    isplitl [Hhr1]; · iexact Hhr1
    iexact Hw
  iintro ⟨Hws0, Hhs0, Hwr1, Hhr1, HO, Hwo, Hho, Hw, Hh, -⟩
  iapply (ld_h1 (F := F) c (X := HV (org c 31))) $$ Hh; iintro Hh
  iapply (ld_row (F := F) HV c (n := 31)) $$ Htab; iintro Htab
  rw [pay_row₃]
  iapply (st_row HV c (n := 31) (by decide) (off := k0_off4 c) (row_last c) (w := HV (org c 31)) rfl) $$ Htab; iintro Htab
  iapply (ld (F := F) c (m := arg5) (q := fullShare) (X := acc WV c x e (31))) $$ Hacc; iintro Hacc
  iapply (ld_w1 (F := F) c (q := fullShare) (X := WV (org c 31))) $$ Hw; iintro Hw
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg0) (q := q0) (X := x)) $$ Hx; iintro Hx
  iapply (ld (F := F) c (m := arg1) (q := q1) (X := e)) $$ Hi; iintro Hi
  iapply (ld (F := F) c (m := arg5) (q := fullShare) (X := acc WV c x e (31))) $$ Hacc; iintro Hacc
  rw [pay_tail, tail_word, acc_succ]
  iapply (st (F := F) c (m := arg5)) $$ Hacc; iintro Hacc
  ihave Htab := (rows_whole HV c) $$ Htab
  iapply (ld (F := F) c (m := tM) (q := fullShare) (X := tab HV)) $$ Htab; iintro Htab
  iapply (ld (F := F) c (m := arg1) (q := q1) (X := e)) $$ Hi; iintro Hi
  iapply (ld (F := F) c (m := arg4) (q := q4) (X := rk)) $$ Hrk; iintro Hrk
  iapply (ld (F := F) c (m := arg5) (q := fullShare) (X := acc WV c x e 32)) $$ Hacc; iintro Hacc
  iapply (ld (F := F) c (m := arg5) (q := fullShare) (X := acc WV c x e 32)) $$ Hacc; iintro Hacc
  iapply (st (F := F) c (m := arg5)) $$ Hacc; iintro Hacc
  rw [wp_ret]
  imod (close_at WV HV κ c bar (r := 1) (by decide)) $$ [Hpb] with Hpb
  · isplitl []; · iexact He
    iexact Hpb
  imod (close WV HV κ c cr (r := 31) (by decide)) $$ [Hcr] with Hcr
  · isplitl []; · iexact He
    iexact Hcr
  imod (close WV HV κ c (ws 0) (r := 16) (by decide)) $$ [Hws0] with Hws0
  · isplitl []; · iexact He
    iexact Hws0
  imod (close WV HV κ c (hs 0) (r := 16) (by decide)) $$ [Hhs0] with Hhs0
  · isplitl []; · iexact He
    iexact Hhs0
  imod (close WV HV κ c (wr 0) (r := 15) (by decide)) $$ [Hwr0] with Hwr0
  · isplitl []; · iexact He
    iexact Hwr0
  imod (close WV HV κ c (hr 0) (r := 15) (by decide)) $$ [Hhr0] with Hhr0
  · isplitl []; · iexact He
    iexact Hhr0
  imod (close WV HV κ c (ws 1) (r := 15) (by decide)) $$ [Hws1] with Hws1
  · isplitl []; · iexact He
    iexact Hws1
  imod (close WV HV κ c (hs 1) (r := 15) (by decide)) $$ [Hhs1] with Hhs1
  · isplitl []; · iexact He
    iexact Hhs1
  imod (close WV HV κ c (wr 1) (r := 16) (by decide)) $$ [Hwr1] with Hwr1
  · isplitl []; · iexact He
    iexact Hwr1
  imod (close WV HV κ c (hr 1) (r := 16) (by decide)) $$ [Hhr1] with Hhr1
  · isplitl []; · iexact He
    iexact Hhr1
  imodintro
  iapply HQ
  isplitl [Hpb]; · iexact Hpb
  isplitl [Hcr Hws0 Hhs0 Hwr0 Hhr0 Hws1 Hhs1 Hwr1 Hhr1]
  · unfold zeros
    isplitl [Hcr]; · iexact Hcr
    isplitl [Hws0 Hhs0 Hwr0 Hhr0]
    · isplitl [Hws0]; · iexact Hws0
      isplitl [Hhs0]; · iexact Hhs0
      isplitl [Hwr0]; · iexact Hwr0
      iexact Hhr0
    isplitl [Hws1]; · iexact Hws1
    isplitl [Hhs1]; · iexact Hhs1
    isplitl [Hwr1]; · iexact Hwr1
    iexact Hhr1
  isplitl [HO]; · iapply (ow_end (F := F) c) $$ HO
  isplitl [Hwo Hw Hho Hh Htab]
  · isplitl [Hwo]; · iexists _; iexact Hwo
    isplitl [Hw]; · iexists _; iexact Hw
    isplitl [Hho]; · iexists _; iexact Hho
    isplitl [Hh]; · iexists _; iexact Hh
    iexists _; iexact Htab
  isplitl [Hx]; · iexact Hx
  isplitl [Hi]; · iexact Hi
  isplitl [HW]; · iexact HW
  isplitl [HH]; · iexact HH
  isplitl [Hrk]; · iexact Hrk
  iexact Hacc

end Body

end Cert.Moe

end
-- ==== Proof.Deal.lean ====
/-
# The launch of the ring

What every device is dealt when the program starts: its place at the entry barrier, the right to open its scoped
semaphores once the kernel's region gives it their counters, the token of every duty it will pay, and the credit of
everything the others owe it. And how the two slots of a scratch buffer are cut from it and joined again.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Role

variable {F : FTy → Type} [FloatOps F]

local notation "𝕄" => MT nD τ sig ℕ (Elt F) ℕ UU ℕ

variable (WV : Dev nD → Vec F S4x512x1024 .bf16) (HV : Dev nD → Vec F S1x128 .i32) (κ : GSem nD τ sig → ℕ) (c : Dev nD)

/-! ## The tokens -/

/-- The five duties of hop `j`: the cell's part, and the round. -/
def tokF (k : Fin 5) (j : ℕ) : Role × ℕ := match k with
  | 0 => (ws (sl j), j / 2)
  | 1 => (wr (oth (sl j)), j / 2)
  | 2 => (hs (sl j), j / 2)
  | 3 => (hr (oth (sl j)), j / 2)
  | 4 => (cr, j)

/-- The hop and the duty, back from the part and the round. -/
def hopOf : Role × ℕ → Fin 5 × ℕ
  | (bar, _) => (0, 0)
  | (ws s, r) => (0, 2 * r + s.val)
  | (wr s, r) => (1, 2 * r + (oth s).val)
  | (hs s, r) => (2, 2 * r + s.val)
  | (hr s, r) => (3, 2 * r + (oth s).val)
  | (cr, n) => (4, n)

theorem hop_half (j : ℕ) : 2 * (j / 2) + (sl j).val = j := by unfold sl; split <;> simp <;> omega

theorem hopOf_tokF (k : Fin 5) (j : ℕ) : hopOf (tokF k j) = (k, j) := by
  fin_cases k
  · show ((0 : Fin 5), 2 * (j / 2) + (sl j).val) = _; rw [hop_half]; rfl
  · show ((1 : Fin 5), 2 * (j / 2) + (oth (oth (sl j))).val) = _; rw [oth_oth, hop_half]; rfl
  · show ((2 : Fin 5), 2 * (j / 2) + (sl j).val) = _; rw [hop_half]; rfl
  · show ((3 : Fin 5), 2 * (j / 2) + (oth (oth (sl j))).val) = _; rw [oth_oth, hop_half]; rfl
  · rfl

def hopTok : Dev nD × (Fin 5 × Fin 31) ↪ GSem nD τ sig × ℕ × Bool :=
  ⟨fun p => (cell p.1 (tokF p.2.1 p.2.2.val).1, (tokF p.2.1 p.2.2.val).2, false), fun p p' h => by
    obtain ⟨c, k, j⟩ := p; obtain ⟨c', k', j'⟩ := p'
    have h1 : c = c' := congrArg (fun t : GSem nD τ sig × ℕ × Bool => t.1.1.1) h
    have h2 := semOf_inj (congrArg (fun t : GSem nD τ sig × ℕ × Bool => t.1.2) h)
    have h3 : (tokF k j.val).2 = (tokF k' j'.val).2 := congrArg (fun t : GSem nD τ sig × ℕ × Bool => t.2.1) h
    have h4 : ((k, j.val) : Fin 5 × ℕ) = (k', j'.val) := by
      rw [← hopOf_tokF k j.val, ← hopOf_tokF k' j'.val]; exact congrArg hopOf (Prod.ext h2 h3)
    obtain ⟨rfl, h5⟩ := Prod.mk.inj h4
    obtain rfl := Fin.ext h5
    rw [h1]⟩
def barTok : Dev nD × Bool ↪ GSem nD τ sig × ℕ × Bool :=
  ⟨fun p => (cell p.1 bar, 0, p.2), fun p p' h =>
    Prod.ext (congrArg (fun t : GSem nD τ sig × ℕ × Bool => t.1.1.1) h) (congrArg (fun t : GSem nD τ sig × ℕ × Bool => t.2.2) h)⟩
def toks : Finset (GSem nD τ sig × ℕ × Bool) := Finset.univ.map hopTok ∪ Finset.univ.map barTok

theorem tokF_ne_bar (k : Fin 5) (j : ℕ) : (tokF k j).1 ≠ bar := by
  fin_cases k <;> exact fun h => nomatch h

theorem toks_disjoint : Disjoint ((Finset.univ : Finset (Dev nD × (Fin 5 × Fin 31))).map hopTok) (Finset.univ.map barTok) := by
  rw [Finset.disjoint_left]
  intro t h h'
  obtain ⟨p, -, rfl⟩ := Finset.mem_map.mp h
  obtain ⟨p', -, h'⟩ := Finset.mem_map.mp h'
  have h2 : semOf bar = semOf (tokF p.2.1 p.2.2.val).1 := congrArg (fun t : GSem nD τ sig × ℕ × Bool => t.1.2) h'
  exact tokF_ne_bar p.2.1 p.2.2.val (semOf_inj h2).symm

theorem cells_disjoint : Disjoint barCells scCells := by
  rw [Finset.disjoint_left]
  intro g h h'
  obtain ⟨c, -, rfl⟩ := Finset.mem_map.mp h
  obtain ⟨p, -, h'⟩ := Finset.mem_map.mp h'
  have h2 : semOf (sc p.2) = semOf bar := congrArg Prod.snd h'
  exact (by decide : ∀ i, sc i ≠ bar) p.2 (semOf_inj h2)

theorem bigSep_hops (Φ : ℕ → sProp 𝕄) : bigSep Finset.univ (fun i : Fin 31 => Φ i.val) = bigSep (Finset.Ico 0 31) Φ := by
  rw [show Finset.Ico 0 31 = (Finset.univ : Finset (Fin 31)).map Fin.valEmbedding from by decide, bigSep_map]
  rfl

/-- The tokens of hop duty `k` of every device's own cells, and the barrier's. -/
def tokRow (k : Fin 5) : sProp 𝕄 := bigSep (Finset.Ico 0 31) fun j => dutyTok ER (cell c (tokF k j).1) (tokF k j).2 false

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem toks_eq : bigSep toks (fun x => (dutyTok ER x.1 x.2.1 x.2.2 : sProp 𝕄))
    = iprop((bigSep Finset.univ fun c : Dev nD => iprop(tokRow c 0 ∗ tokRow c 1 ∗ tokRow c 2 ∗ tokRow c 3 ∗ tokRow c 4))
        ∗ bigSep Finset.univ fun c : Dev nD => iprop(dutyTok ER (cell c bar) 0 false ∗ dutyTok ER (cell c bar) 0 true)) := by
  unfold toks
  rw [bigSep_union toks_disjoint, bigSep_map, bigSep_map, bigSep_univ_prod, bigSep_univ_prod]
  refine congrArg₂ _ (bigSep_congr fun c _ => ?_) (bigSep_congr fun c _ => ?_)
  · rw [bigSep_univ_prod, ← bigSep_five (F := F) (fun k => tokRow c k)]
    exact bigSep_congr fun k _ => bigSep_hops (F := F) (fun j => dutyTok ER (cell c (tokF k j).1) (tokF k j).2 false)
  · exact bigSep_univ_eq_bigSepL [false, true] (by decide) (by decide) _

/-- The tokens device `c` pays with: its own cells' for what its copies' reads give back, the next device's for what its
    copies land, the device before's for the credits, and the two of its barrier units. -/
def myToks : sProp 𝕄 :=
  iprop(tokRow c 0 ∗ tokRow (nxt c) 1 ∗ tokRow c 2 ∗ tokRow (nxt c) 3 ∗ tokRow (prv c) 4
    ∗ dutyTok ER (cell (nxt c) bar) 0 true ∗ dutyTok ER (cell (prv c) bar) 0 false)

theorem around (Φ : Dev nD → sProp 𝕄) : bigSep Finset.univ Φ ⊢ bigSep Finset.univ fun c => Φ (nxt c) :=
  Entails.of_eq (bigSep_univ_equiv ring Φ)
theorem around_back (Φ : Dev nD → sProp 𝕄) : bigSep Finset.univ Φ ⊢ bigSep Finset.univ fun c => Φ (prv c) :=
  Entails.of_eq (bigSep_univ_equiv ring.symm Φ)

theorem toks_deal : bigSep toks (fun x => (dutyTok ER x.1 x.2.1 x.2.2 : sProp 𝕄)) ⊢ bigSep Finset.univ fun c : Dev nD => myToks c := by
  rw [toks_eq]
  unfold myToks
  rw [bigSep_sep', bigSep_sep', bigSep_sep', bigSep_sep', bigSep_sep', bigSep_sep', bigSep_sep', bigSep_sep', bigSep_sep', bigSep_sep', bigSep_sep']
  iintro ⟨⟨H0, H1, H2, H3, H4⟩, Hf, Ht⟩
  isplitl [H0]; · iexact H0
  isplitl [H1]; · iapply (around (F := F) fun c => tokRow c 1) $$ H1
  isplitl [H2]; · iexact H2
  isplitl [H3]; · iapply (around (F := F) fun c => tokRow c 3) $$ H3
  isplitl [H4]; · iapply (around_back (F := F) fun c => tokRow c 4) $$ H4
  isplitl [Ht]; · iapply (around (F := F) fun c => dutyTok ER (cell c bar) 0 true) $$ Ht
  iapply (around_back (F := F) fun c => dutyTok ER (cell c bar) 0 false) $$ Hf

/-! ## The credit -/

def credRow (k : Fin 3) : sProp 𝕄 := bigSep (Finset.Ico 0 31) fun j => match k with
  | 0 => cred (tallyAt (cell c (wr (oth (sl j)))) (j / 2) NW)
  | 1 => cred (tallyAt (cell c (hr (oth (sl j)))) (j / 2) NH)
  | 2 => cred (tallyAt (cell c cr) j 1)

theorem cred_w : (Pipeline.launchCred (fun d => OW d 0) c : sProp 𝕄) ⊢ credRow c 0 := by
  unfold OW credRow
  rw [Pipeline.launchCred_sum (Finset.Ico 0 31) (fun j d => tallyAt (cell (nxt d) (wr (oth (sl j)))) (j / 2) NW)]
  exact bigSep_mono fun j _ => Pipeline.launchCred_tallyAt _ nxt prv nxt_prv prv_nxt _ _ c
theorem cred_h : (Pipeline.launchCred (fun d => OH d 0) c : sProp 𝕄) ⊢ credRow c 1 := by
  unfold OH credRow
  rw [Pipeline.launchCred_sum (Finset.Ico 0 31) (fun j d => tallyAt (cell (nxt d) (hr (oth (sl j)))) (j / 2) NH)]
  exact bigSep_mono fun j _ => Pipeline.launchCred_tallyAt _ nxt prv nxt_prv prv_nxt _ _ c
theorem cred_c : (Pipeline.launchCred (fun d => OC d 0) c : sProp 𝕄) ⊢ credRow c 2 := by
  unfold OC credRow
  rw [Pipeline.launchCred_sum (Finset.Ico 0 31) (fun j d => tallyAt (cell (prv d) cr) j 1)]
  exact bigSep_mono fun j _ => Pipeline.launchCred_tallyAt _ prv nxt prv_nxt nxt_prv _ _ c

theorem creds : (Pipeline.launchCred O₀ c : sProp 𝕄) ⊢ iprop(credRow c 0 ∗ credRow c 1 ∗ credRow c 2 ∗ cred (tallyAt (cell c bar) 0 2)) := by
  unfold O₀ O₁
  rw [Pipeline.launchCred_add (fun d => OW d 0 + OH d 0 + OC d 0 + tallyAt (cell (nxt d) bar) 0 1) (fun d => tallyAt (cell (prv d) bar) 0 1),
    Pipeline.launchCred_add (fun d => OW d 0 + OH d 0 + OC d 0) (fun d => tallyAt (cell (nxt d) bar) 0 1),
    Pipeline.launchCred_add (fun d => OW d 0 + OH d 0) (fun d => OC d 0), Pipeline.launchCred_add (fun d => OW d 0) (fun d => OH d 0)]
  iintro ⟨⟨⟨⟨Hw, Hh⟩, Hc⟩, Hn⟩, Hp⟩
  isplitl [Hw]; · iapply (cred_w c) $$ Hw
  isplitl [Hh]; · iapply (cred_h c) $$ Hh
  isplitl [Hc]; · iapply (cred_c c) $$ Hc
  rw [show (tallyAt (cell c bar) 0 2 : CellTallies nD τ sig ℕ) = tallyAt (cell c bar) 0 1 + tallyAt (cell c bar) 0 1 from (tallyAt_add _ _ 1 1).symm]
  iapply (cred_add _ _).2
  isplitl [Hn]
  · iapply (Pipeline.launchCred_tallyAt (semOf bar) nxt prv nxt_prv prv_nxt 0 1 c) $$ Hn
  · iapply (Pipeline.launchCred_tallyAt (semOf bar) prv nxt prv_nxt nxt_prv 0 1 c) $$ Hp

/-- Tokens and credit, hop by hop. -/
theorem hops_intro : iprop(tokRow c 0 ∗ tokRow (nxt c) 1 ∗ tokRow c 2 ∗ tokRow (nxt c) 3 ∗ credRow c 0 ∗ credRow c 1 ∗ credRow c 2)
    ⊢ (bigSep (Finset.Ico 0 31) (fun j => hopAt c j) : sProp 𝕄) := by
  unfold tokRow credRow
  rw [← bigSep_sep', ← bigSep_sep', ← bigSep_sep', ← bigSep_sep', ← bigSep_sep', ← bigSep_sep']
  exact bigSep_mono fun j _ => BI.Entails.refl _

/-! ## What a device holds up to the kernel's region, and the opening of its scoped cells -/

/-- The rights to open the scoped cells. -/
def opens : sProp 𝕄 := bigSep Finset.univ fun i : Fin 9 => openTok ER (cell c (sc i))

def dealt (κ : GSem nD τ sig → ℕ) : sProp 𝕄 :=
  iprop(invs WV HV κ ∗ bigSep barCells fun g => reached ER g 0)
instance dealt_persistent (κ : GSem nD τ sig → ℕ) : Persistent (dealt (F := F) WV HV κ) := by unfold dealt; infer_instance

def linear : sProp 𝕄 :=
  iprop(atPos ER (cell c bar) 0 ∅ 0 ∗ opens c ∗ myToks c)
def credits : sProp 𝕄 := iprop(credRow c 0 ∗ credRow c 1 ∗ credRow c 2 ∗ cred (tallyAt (cell c bar) 0 2))

/-- What the launch and the region's entry do not change: it waits for the region. -/
def kept : sProp 𝕄 := iprop((∃ κ, dealt WV HV κ ∗ linear c) ∗ credits c)

theorem open_one (k : Role) : iprop(invs WV HV κ ∗ openTok ER (cell c k) ∗ semVal (cell c k) 0)
    ⊢ (|={Set.univ}=> stand c k 0 : sProp 𝕄) := by
  iintro ⟨#Hi, Ho, Hs⟩
  ihave #Hk := (invs_get WV HV κ c k) $$ Hi
  imod (Rounds.cell_open ER (Rd WV HV) (g := cell c k) (Set.mem_univ (κ (cell c k)))) $$ [Ho Hs] with ⟨Hat, #Hr⟩
  · isplitr; · iexact Hk
    isplitl [Ho] <;> iassumption
  imodintro
  unfold stand
  isplitl [Hat]; · iexact Hat
  iexact Hr

theorem bigSep_nine (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem open_all : iprop(invs WV HV κ ∗ opens c ∗ bigSep Finset.univ (fun i : Fin 9 => semVal (cell c (sc i)) 0))
    ⊢ (|={Set.univ}=> bigSep Finset.univ (fun i : Fin 9 => stand c (sc i) 0) : sProp 𝕄) := by
  unfold opens
  rw [← bigSep_sep']
  exact (bigSep_with_persistent (R := invs WV HV κ) (Ψ := fun i : Fin 9 => iprop(|={Set.univ}=> stand c (sc i) 0))
    fun i _ => open_one WV HV κ c (sc i)).trans (bigSep_fupd _ _)

theorem reached_bar (d : Dev nD) : bigSep barCells (fun g => (reached ER g 0 : sProp 𝕄)) ⊢ reached ER (cell d bar) 0 :=
  bigSep_elim (Finset.mem_map.mpr ⟨d, Finset.mem_univ _, rfl⟩)

theorem talk_open : iprop(kept WV HV c ∗ bigSep Finset.univ (fun i : Fin 9 => semVal (cell c (sc i)) 0) ∗ levAts L lv)
    ⊢ (|={Set.univ}=> ∃ κ, talkIn WV HV κ c : sProp 𝕄) := by
  unfold kept dealt linear myToks credits
  iintro ⟨⟨⟨%κ, ⟨#Hi, #Hr⟩, Hat, Ho, T0, T1, T2, T3, T4, Tt, Tf⟩, C0, C1, C2, Cb⟩, Hs, #Hl⟩
  imod (open_all WV HV κ c) $$ [Ho Hs] with Hst
  · isplitr; · iexact Hi
    isplitl [Ho] <;> iassumption
  imodintro
  iexists κ
  ihave Hst := (Entails.of_eq (bigSep_nine (F := F) (fun i : Fin 9 => stand c (sc i) 0))) $$ Hst
  icases Hst with ⟨S0, S1, S2, S3, S4, S5, S6, S7, S8⟩
  unfold talkIn env
  isplitr
  · isplitr; · iexact Hi
    iexact Hl
  isplitl [Hat]; · iexact Hat
  isplitr; · iapply (reached_bar (F := F) (nxt c)) $$ Hr
  isplitr; · iapply (reached_bar (F := F) (prv c)) $$ Hr
  isplitl [Tt]; · iexact Tt
  isplitl [Tf]; · iexact Tf
  isplitl [Cb]; · iexact Cb
  isplitl [T0 T1 T2 T3 C0 C1 C2]
  · iapply (hops_intro c)
    isplitl [T0]; · iexact T0
    isplitl [T1]; · iexact T1
    isplitl [T2]; · iexact T2
    isplitl [T3]; · iexact T3
    isplitl [C0]; · iexact C0
    isplitl [C1] <;> iassumption
  isplitl [T4]
  · iapply (show tokRow (prv c) 4 ⊢ (bigSep (Finset.Ico 0 31) (fun j => dutyTok ER (cell (prv c) cr) j false) : sProp 𝕄) from BI.Entails.refl _) $$ T4
  isplitl [S0]; · iexact S0
  isplitl [S1 S5 S3 S7]
  · isplitl [S1]; · iexact S1
    isplitl [S5]; · iexact S5
    isplitl [S3]; · iexact S3
    iexact S7
  · isplitl [S2]; · iexact S2
    isplitl [S6]; · iexact S6
    isplitl [S4]; · iexact S4
    iexact S8

theorem zeros_nine : (zeros c : sProp 𝕄) ⊢ bigSep Finset.univ (fun i : Fin 9 => semVal (cell c (sc i)) 0) := by
  rw [bigSep_nine]
  unfold zeros
  iintro ⟨S0, ⟨S1, S5, S3, S7⟩, S2, S6, S4, S8⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

/-! ## The slots of the scratch buffers -/

theorem wRect_disj : Disjoint (wRect 0).set (wRect 1).set := Rect.unit_disjoint (0 : Fin 4) (Or.inl (by decide))
theorem hRect_disj : Disjoint (hRect 0).set (hRect 1).set := Rect.unit_disjoint (0 : Fin 3) (Or.inl (by decide))
theorem wRect_union : (wRect 0).set ∪ (wRect 1).set = Finset.univ := by
  ext i
  simp only [Finset.mem_union, Finset.mem_univ, iff_true]
  have h0 : (i 0 : ℕ) < 2 := (i 0).isLt
  have h1 : (i 1 : ℕ) < 4 := (i 1).isLt
  have h2 : (i 2 : ℕ) < 512 := (i 2).isLt
  have h3 : (i 3 : ℕ) < 1024 := (i 3).isLt
  rcases Nat.lt_or_ge (i 0 : ℕ) 1 with h | h
  · refine Or.inl (Rect.mem_set_unit.mpr fun a => ?_)
    fin_cases a
    · exact ⟨Nat.zero_le _, by show (i 0 : ℕ) < 0 + 1; omega⟩
    · exact ⟨Nat.zero_le _, by show (i 1 : ℕ) < 0 + 4; omega⟩
    · exact ⟨Nat.zero_le _, by show (i 2 : ℕ) < 0 + 512; omega⟩
    · exact ⟨Nat.zero_le _, by show (i 3 : ℕ) < 0 + 1024; omega⟩
  · refine Or.inr (Rect.mem_set_unit.mpr fun a => ?_)
    fin_cases a
    · exact ⟨h, by show (i 0 : ℕ) < 1 + 1; omega⟩
    · exact ⟨Nat.zero_le _, by show (i 1 : ℕ) < 0 + 4; omega⟩
    · exact ⟨Nat.zero_le _, by show (i 2 : ℕ) < 0 + 512; omega⟩
    · exact ⟨Nat.zero_le _, by show (i 3 : ℕ) < 0 + 1024; omega⟩
theorem hRect_union : (hRect 0).set ∪ (hRect 1).set = Finset.univ := by
  ext i
  simp only [Finset.mem_union, Finset.mem_univ, iff_true]
  have h0 : (i 0 : ℕ) < 2 := (i 0).isLt
  have h1 : (i 1 : ℕ) < 1 := (i 1).isLt
  have h2 : (i 2 : ℕ) < 128 := (i 2).isLt
  rcases Nat.lt_or_ge (i 0 : ℕ) 1 with h | h
  · refine Or.inl (Rect.mem_set_unit.mpr fun a => ?_)
    fin_cases a
    · exact ⟨Nat.zero_le _, by show (i 0 : ℕ) < 0 + 1; omega⟩
    · exact ⟨Nat.zero_le _, by show (i 1 : ℕ) < 0 + 1; omega⟩
    · exact ⟨Nat.zero_le _, by show (i 2 : ℕ) < 0 + 128; omega⟩
  · refine Or.inr (Rect.mem_set_unit.mpr fun a => ?_)
    fin_cases a
    · exact ⟨h, by show (i 0 : ℕ) < 1 + 1; omega⟩
    · exact ⟨Nat.zero_le _, by show (i 1 : ℕ) < 0 + 1; omega⟩
    · exact ⟨Nat.zero_le _, by show (i 2 : ℕ) < 0 + 128; omega⟩

theorem both_ways {P Q : sProp 𝕄} (h : P ⊢ Q) (h' : Q ⊢ P) : P = Q := BI.Entails.antisymm h h'

/-- A view held at some contents, as a part of its buffer. -/
theorem owns_some {sp : Space} {sh : Shape} {e : EltTy} (m : Memref sig .tc sp sh e) : (iprop(∃ X, owns (c : Thread nD τ) m fullShare X) : sProp 𝕄)
    = iprop(∃ f : Buf (Elt F) (m.view.loc (c : Thread nD τ)), (m.view.loc (c : Thread nD τ)) ↦[m.view.set]{fullShare} f) := by
  unfold owns
  refine both_ways ?_ ?_
  · iintro ⟨%X, %f, -, H⟩; iexists f; iexact H
  · iintro ⟨%f, H⟩; iexists _; iexists f; isplitr; · ipureintro; rfl
    iexact H

theorem wSet0 : ((wSl 0).view.set : Finset S2x4x512x1024.Idx) = (wRect 0).set := by
  show (View.reshape ((View.whole cc0_scratch0).slice (wRect 0)) _ _).set = _
  exact (View.set_reshape _ _).trans (View.set_slice_whole _ _)
theorem wPart0 : (iprop(∃ X, wOwn c 0 fullShare X) : sProp 𝕄)
    = iprop(∃ f : Buf (Elt F) ((c : Thread nD τ).loc cc0_scratch0), ((c : Thread nD τ).loc cc0_scratch0) ↦[(wRect 0).set]{fullShare} f) := by
  rw [← wSet0]; exact owns_some c (wSl 0)
theorem wSet1 : ((wSl 1).view.set : Finset S2x4x512x1024.Idx) = (wRect 1).set := by
  show (View.reshape ((View.whole cc0_scratch0).slice (wRect 1)) _ _).set = _
  exact (View.set_reshape _ _).trans (View.set_slice_whole _ _)
theorem wPart1 : (iprop(∃ X, wOwn c 1 fullShare X) : sProp 𝕄)
    = iprop(∃ f : Buf (Elt F) ((c : Thread nD τ).loc cc0_scratch0), ((c : Thread nD τ).loc cc0_scratch0) ↦[(wRect 1).set]{fullShare} f) := by
  rw [← wSet1]; exact owns_some c (wSl 1)
theorem hSet0 : ((hSl 0).view.set : Finset S2x1x128.Idx) = (hRect 0).set := by
  show (View.reshape ((View.whole cc0_scratch1).slice (hRect 0)) _ _).set = _
  exact (View.set_reshape _ _).trans (View.set_slice_whole _ _)
theorem hPart0 : (iprop(∃ X, hOwn c 0 X) : sProp 𝕄)
    = iprop(∃ f : Buf (Elt F) ((c : Thread nD τ).loc cc0_scratch1), ((c : Thread nD τ).loc cc0_scratch1) ↦[(hRect 0).set]{fullShare} f) := by
  rw [← hSet0]; exact owns_some c (hSl 0)
theorem hSet1 : ((hSl 1).view.set : Finset S2x1x128.Idx) = (hRect 1).set := by
  show (View.reshape ((View.whole cc0_scratch1).slice (hRect 1)) _ _).set = _
  exact (View.set_reshape _ _).trans (View.set_slice_whole _ _)
theorem hPart1 : (iprop(∃ X, hOwn c 1 X) : sProp 𝕄)
    = iprop(∃ f : Buf (Elt F) ((c : Thread nD τ).loc cc0_scratch1), ((c : Thread nD τ).loc cc0_scratch1) ↦[(hRect 1).set]{fullShare} f) := by
  rw [← hSet1]; exact owns_some c (hSl 1)

/-- A buffer cut into two parts that make it up, and joined. -/
theorem two_parts {ℓ : Loc nD τ sig} {I J : Finset (Idx ℓ)} (hd : Disjoint I J) (hu : I ∪ J = Finset.univ) :
    (iprop(∃ f : Buf (Elt F) ℓ, ℓ ↦{fullShare} f) : sProp 𝕄)
      = iprop((∃ f : Buf (Elt F) ℓ, ℓ ↦[I]{fullShare} f) ∗ ∃ f : Buf (Elt F) ℓ, ℓ ↦[J]{fullShare} f) := by
  refine both_ways ?_ ?_
  · rw [← hu]
    iintro ⟨%f, H⟩
    ihave H := (pointsTo_union hd).1 $$ H
    icases H with ⟨H0, H1⟩
    isplitl [H0]; · iexists f; iexact H0
    iexists f; iexact H1
  · iintro ⟨⟨%f, H0⟩, %g, H1⟩
    rw [← hu]
    iexists _
    iapply (pointsTo_join hd)
    isplitl [H0] <;> iassumption

theorem scratch_eq : (Pipeline.scopedRest (Ix := ℕ) (Name := ℕ) (U := UU) (Lvl := ℕ) (Val := Elt F) spec0 c : sProp 𝕄) = scratch c := by
  have ht : (iprop(∃ X, owns (c : Thread nD τ) tM fullShare X) : sProp 𝕄)
      = iprop(∃ f : Buf (Elt F) ((c : Thread nD τ).loc cc0_scratch2), ((c : Thread nD τ).loc cc0_scratch2) ↦{fullShare} f) := by
    simp only [owns, Memref.view_whole, View.read_whole, View.set_whole]
    refine both_ways ?_ ?_
    · iintro ⟨%X, %f, -, H⟩; iexists f; iexact H
    · iintro ⟨%f, H⟩; iexists _; iexists f; isplitr; · ipureintro; rfl
      iexact H
  unfold scratch
  rw [scopedRest0_eq, two_parts wRect_disj wRect_union, two_parts hRect_disj hRect_union, ht, wPart0, wPart1, hPart0, hPart1]
  refine both_ways ?_ ?_
  · iintro ⟨⟨H1, H2⟩, ⟨H3, H4⟩, H5⟩
    isplitl [H1]; · iexact H1
    isplitl [H2]; · iexact H2
    isplitl [H3]; · iexact H3
    isplitl [H4] <;> iassumption
  · iintro ⟨H1, H2, H3, H4, H5⟩
    isplitl [H1 H2]; · isplitl [H1] <;> iassumption
    isplitl [H3 H4]; · isplitl [H3] <;> iassumption
    iexact H5

end Cert.Moe
-- ==== Proof.Run.lean ====
/-
# The run of the kernel's program

The kernel's region in the pipeline, and the host operations before it, as segments of the program: what each starts from
and what it leaves.
-/
module

public import proofs.«01_k».proof.Proof.Deal
public import Idealize.ShloMosaic.Lib.Pipeline.Value
public import Idealize.ShloMosaic.Init

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Role

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What the body reads -/

def X0 : Vec F S2048x512 .bf16 := iblk m c 0 t0_0
def E0 : Vec F S2048x1 .i32 := iblk m c 1 t0_0
def W0 : Vec F S4x512x1024 .bf16 := iblk m c 2 t0_0
def H0 : Vec F S1x128 .i32 := iblk m c 3 t0_0
def R0 : Vec F S2048x1 .f32 := iblk m c 4 t0_0
/-- What the body leaves. -/
def Y0 : Vec F S2048x1024 .f32 := res (W0 m) (H0 m) c (X0 m c) (E0 m c) (R0 m c)

/-! ## The region's proof data -/

def Φ₀ : sProp 𝕄 := iprop((∃ κ, talkIn (W0 m) (H0 m) κ c) ∗ scratch c ∗ ∃ r, prngReg c r)
def Φ₁ : sProp 𝕄 := iprop(semVal (cell c bar) 0 ∗ zeros c ∗ scratch c ∗ ∃ r, prngReg c r)

def dat : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Y0 m c
  Φ t := if t.val = 0 then Φ₀ m c else Φ₁ c
  q _ := fullShare
  owed t := if t.val = 0 then O₀ c else 0

section
variable {m c} (D : Dat τ (Elt F) ℕ ℕ UU ℕ cfg0 c)
theorem before_of_0 (hA : D.A 0 = V m c (Pipeline.arrRef spec0 0)) (hafter : ∀ t, D.after 0 t = iblk m c 0 t) (t : Fin cfg0.N) (d) :
    D.before 0 t d = iblk m c 0 t :=
  (D.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 (hA : D.A 1 = V m c (Pipeline.arrRef spec0 1)) (hafter : ∀ t, D.after 1 t = iblk m c 1 t) (t : Fin cfg0.N) (d) :
    D.before 1 t d = iblk m c 1 t :=
  (D.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 (hA : D.A 2 = V m c (Pipeline.arrRef spec0 2)) (hafter : ∀ t, D.after 2 t = iblk m c 2 t) (t : Fin cfg0.N) (d) :
    D.before 2 t d = iblk m c 2 t :=
  (D.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 (hA : D.A 3 = V m c (Pipeline.arrRef spec0 3)) (hafter : ∀ t, D.after 3 t = iblk m c 3 t) (t : Fin cfg0.N) (d) :
    D.before 3 t d = iblk m c 3 t :=
  (D.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 (hA : D.A 4 = V m c (Pipeline.arrRef spec0 4)) (hafter : ∀ t, D.after 4 t = iblk m c 4 t) (t : Fin cfg0.N) (d) :
    D.before 4 t d = iblk m c 4 t :=
  (D.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end
theorem A_eq (w : Fin 6) : (dat m c).A w = V m c (Pipeline.arrRef spec0 w) := rfl
theorem after_0 (t : Fin cfg0.N) : (dat m c).after 0 t = iblk m c 0 t := by unfold dat; dsimp only
theorem before_0 (d) : (dat m c).before 0 t0_0 d = X0 m c := by
  unfold X0; exact before_of_0 (dat m c) (A_eq m c 0) (after_0 m c) t0_0 d
theorem after_1 (t : Fin cfg0.N) : (dat m c).after 1 t = iblk m c 1 t := by unfold dat; dsimp only
theorem before_1 (d) : (dat m c).before 1 t0_0 d = E0 m c := by
  unfold E0; exact before_of_1 (dat m c) (A_eq m c 1) (after_1 m c) t0_0 d
theorem after_2 (t : Fin cfg0.N) : (dat m c).after 2 t = iblk m c 2 t := by unfold dat; dsimp only
theorem before_2 (d) : (dat m c).before 2 t0_0 d = W0 m c := by
  unfold W0; exact before_of_2 (dat m c) (A_eq m c 2) (after_2 m c) t0_0 d
theorem after_3 (t : Fin cfg0.N) : (dat m c).after 3 t = iblk m c 3 t := by unfold dat; dsimp only
theorem before_3 (d) : (dat m c).before 3 t0_0 d = H0 m c := by
  unfold H0; exact before_of_3 (dat m c) (A_eq m c 3) (after_3 m c) t0_0 d
theorem after_4 (t : Fin cfg0.N) : (dat m c).after 4 t = iblk m c 4 t := by unfold dat; dsimp only
theorem before_4 (d) : (dat m c).before 4 t0_0 d = R0 m c := by
  unfold R0; exact before_of_4 (dat m c) (A_eq m c 4) (after_4 m c) t0_0 d
theorem after_5 (t : Fin cfg0.N) : (dat m c).after 5 t = Y0 m c := by unfold dat; dsimp only

theorem owed_first : (dat m c).owed t0_0.castSucc = O₀ c := by
  show (if t0_0.castSucc.val = 0 then O₀ c else 0) = O₀ c; exact if_pos rfl
theorem owed_zero : (dat m c).owed 0 = O₀ c := by
  show (if (0 : Fin (cfg0.N + 1)).val = 0 then O₀ c else 0) = O₀ c; exact if_pos rfl
theorem owed_succ : (dat m c).owed t0_0.succ = 0 := by
  show (if t0_0.succ.val = 0 then O₀ c else 0) = 0; exact if_neg (Nat.succ_ne_zero _)
theorem owed_last : (dat m c).owed (Fin.last _) = 0 := by
  show (if (Fin.last cfg0.N).val = 0 then O₀ c else 0) = 0
  rw [Fin.val_last, if_neg (by rw [show cfg0.N = 1 from N_0]; decide)]

theorem owes_in (t : Fin (cfg0.N + 1)) (O : CellTallies nD τ sig ℕ) (h : (dat m c).owed t = O) :
    iprop(∃ W, owes (c : Thread nD τ) O W) ⊢ ((dat m c).owesAt 0 t : sProp 𝕄) := by
  unfold Dat.owesAt Pipeline.owesWithin Dat.bound; rw [h]
  iintro ⟨%W, HO⟩; iexists W; isplitr; · ipureintro; exact fun _ _ => Or.inl trivial
  iexact HO
theorem owes_out (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin; rw [h]
  iintro ⟨%W, -, HO⟩; iexists W; iexact HO

/-- What the body starts from and what it leaves, window by window. -/
def bodyPre : sProp 𝕄 :=
  iprop(Φ₀ m c ∗ (dat m c).owesAt 0 t0_0.castSucc
    ∗ (∃ d, owns (c : Thread nD τ) (st0_0 t0_0) fullShare ((dat m c).before 0 t0_0 d))
    ∗ (∃ d, owns (c : Thread nD τ) (st0_1 t0_0) fullShare ((dat m c).before 1 t0_0 d))
    ∗ (∃ d, owns (c : Thread nD τ) (st0_2 t0_0) fullShare ((dat m c).before 2 t0_0 d))
    ∗ (∃ d, owns (c : Thread nD τ) (st0_3 t0_0) fullShare ((dat m c).before 3 t0_0 d))
    ∗ (∃ d, owns (c : Thread nD τ) (st0_4 t0_0) fullShare ((dat m c).before 4 t0_0 d))
    ∗ ∃ d, owns (c : Thread nD τ) (st0_5 t0_0) fullShare ((dat m c).before 5 t0_0 d))
def bodyPost : sProp 𝕄 :=
  iprop(Φ₁ c ∗ (dat m c).owesAt 0 t0_0.succ
    ∗ owns (c : Thread nD τ) (st0_0 t0_0) fullShare ((dat m c).after 0 t0_0)
    ∗ owns (c : Thread nD τ) (st0_1 t0_0) fullShare ((dat m c).after 1 t0_0)
    ∗ owns (c : Thread nD τ) (st0_2 t0_0) fullShare ((dat m c).after 2 t0_0)
    ∗ owns (c : Thread nD τ) (st0_3 t0_0) fullShare ((dat m c).after 3 t0_0)
    ∗ owns (c : Thread nD τ) (st0_4 t0_0) fullShare ((dat m c).after 4 t0_0)
    ∗ owns (c : Thread nD τ) (st0_5 t0_0) fullShare ((dat m c).after 5 t0_0))

theorem body_wp : bodyPre m c
    ⊢ wp frame (wpE (defs₀ (F := F)) Variants.none (c : Thread nD τ) none) Set.univ (bodyAt0 t0_0) (fun _ => bodyPost m c) := by
  unfold bodyPre
  simp only [before_0, before_1, before_2, before_3, before_4]
  unfold Φ₀
  iintro ⟨⟨⟨%κ, Ht⟩, Hs, Hp⟩, HO, ⟨%d0, H0⟩, ⟨%d1, H1⟩, ⟨%d2, H2⟩, ⟨%d3, H3⟩, ⟨%d4, H4⟩, ⟨%d5, H5⟩⟩
  ihave HO := (owes_out m c _ (O₀ c) (owed_first m c)) $$ HO
  iapply (body_run (W0 m) (H0 m) κ c (st0_0 t0_0) (st0_1 t0_0) (st0_2 t0_0) (st0_3 t0_0) (st0_4 t0_0) (st0_5 t0_0)
    fullShare fullShare fullShare fullShare fullShare (X0 m c) (E0 m c) (R0 m c)
    (hstage0_0 0) (hstage0_1 0) (hstage0_2 0) (hstage0_3 0) (hstage0_4 0) (hstage0_5 0)) $$ [Ht HO Hs H0 H1 H2 H3 H4 H5]
  · isplitl [Ht]; · iexact Ht
    isplitl [HO]; · iexact HO
    isplitl [Hs]; · iexact Hs
    isplitl [H0]; · iexact H0
    isplitl [H1]; · iexact H1
    isplitl [H2]; · iexact H2
    isplitl [H3]; · iexact H3
    isplitl [H4]; · iexact H4
    iexists _; iexact H5
  iintro ⟨Hb, Hz, HO, Hs, H0, H1, H2, H3, H4, H5⟩
  unfold bodyPost Φ₁
  simp only [after_0, after_1, after_2, after_3, after_4, after_5]
  isplitl [Hb Hz Hs Hp]
  · isplitl [Hb]; · iexact Hb
    isplitl [Hz]; · iexact Hz
    isplitl [Hs]; · iexact Hs
    iexact Hp
  isplitl [HO]
  · iapply (owes_in m c t0_0.succ 0 (owed_succ m c)) $$ HO
  isplitl [H0]; · iexact H0
  isplitl [H1]; · iexact H1
  isplitl [H2]; · iexact H2
  isplitl [H3]; · iexact H3
  isplitl [H4]; · iexact H4
  iexact H5

theorem body_obligation : BodyObligation (dat m c) (defs₀ (F := F)) Variants.none 0 Set.univ := fun t => by
  obtain rfl := fin_N0 t
  rw [bigSep_W0, bigSep_W0]
  show bodyPre m c ⊢ wp frame (wpE (defs₀ (F := F)) Variants.none (c : Thread nD τ) none) Set.univ (bodyAt0 t0_0) (fun _ => bodyPost m c)
  exact body_wp m c

/-! ## The segments -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

local notation "ℍ" => Pipeline.HostSeg (Name := ℕ) (U := UU) (pcfgs (F := F)) defs₀ Variants.none L lv
local notation "ℝ𝕊" => Pipeline.RegionSeg (pcfgs (F := F)) adm (pdats m) 0 defs₀ Variants.none L lv

/-- The buffers that outlive the region. -/
def bufs : Finset (DevRef τ sig) := (StableHlo.tcRefs τ sig).filter fun b => ¬ b.isScoped

theorem ops_sub {ops : List (HloOp τ sig (Elt F))} (h : ops.Forall fun op => op.bufs ⊆ StableHlo.tcRefs τ sig) :
    ∀ op ∈ ops, op.bufs ⊆ bufs := fun op hop b hb =>
  Finset.mem_filter.mpr ⟨(List.forall_iff_forall_mem.mp h) op hop hb, fun h' => Bool.false_ne_true ((op.no_scoped b hb).symm.trans h')⟩
theorem ops_fresh {ops : List (HloOp τ sig (Elt F))} (h : ops.Forall fun op => op.fresh = ∅) : ∀ op ∈ ops, op.fresh = ∅ :=
  List.forall_iff_forall_mem.mp h

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_bar : (unscopedSems0 c : sProp 𝕄) = semVal (cell c bar) 0 := by
  unfold unscopedSems0
  rw [show (Finset.univ.filter fun sm : SemLoc sig => ¬ sm.isScoped .tc) = {semOf bar} from by decide, BI.bigSep_singleton]

def V₀ : Valuation τ sig (Elt F) := fun b => m (c, b)
def V₁ : Valuation τ sig (Elt F) := StableHlo.after hostOps0 (V₀ m c)
def V₂ : Valuation τ sig (Elt F) := StableHlo.after hostOps0_1 (V₁ m c)
def V₃ : Valuation τ sig (Elt F) := StableHlo.after hostOps0_2 (V₂ m c)
theorem V₃_eq (b : Ref sig .tc) : V₃ m c b = V m c b := rfl

/-- After the region: the result written. -/
def V₄ : Valuation τ sig (Elt F) := Function.update (V₃ m c) (Proc.devRef .tc main_v17) ((dat m c).arrAt 5 cfg0.N)

def bring : sProp 𝕄 := iprop((∃ r, prngReg c r) ∗ kept (W0 m) (H0 m) c ∗ ∃ W, owes (c : Thread nD τ) (O₀ c) W)

def seg0 : ℍ := Pipeline.HostSeg.ofOps _ _ _ _ _ bufs hostOps0 (ops_sub hostOps0_sub) (ops_fresh hostOps0_fresh) (V₀ m) (bring m)
def seg1 : ℍ := Pipeline.HostSeg.ofOps _ _ _ _ _ bufs hostOps0_1 (ops_sub hostOps0_1_sub) (ops_fresh hostOps0_1_fresh) (V₁ m) (bring m)
def seg2 : ℍ := Pipeline.HostSeg.ofOps _ _ _ _ _ bufs hostOps0_2 (ops_sub hostOps0_2_sub) (ops_fresh hostOps0_2_fresh) (V₂ m) (bring m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

abbrev osem (i : Fin 9) : SemLoc sig := semOf (sc i)

abbrev arrs : Finset (DevRef τ sig) := Pipeline.arrRefs (τ := τ) spec0
theorem arr_mem (w : Fin 6) : Proc.devRef .tc (Pipeline.arrRef spec0 w) ∈ arrs := by
  unfold arrs Pipeline.arrRefs
  exact Finset.mem_map_of_mem _ (Finset.mem_image_of_mem _ (Finset.mem_univ w))
theorem arrs_sub : arrs ⊆ bufs := by
  intro b hb
  unfold arrs Pipeline.arrRefs at hb
  obtain ⟨r, hr, rfl⟩ := Finset.mem_map.mp hb
  obtain ⟨w, -, rfl⟩ := Finset.mem_image.mp hr
  refine Finset.mem_filter.mpr ⟨Finset.mem_map_of_mem _ (Finset.mem_univ _), ?_⟩
  exact (by decide : ∀ w : Fin 6, ¬ (Proc.devRef (τ := τ) .tc (Pipeline.arrRef spec0 w)).isScoped) w

theorem sem_level : ∀ (w : Fin 6) (s : Fin (spec0 w).nbuf), roleOf (.dma ((spec0 w).sem s)) = none := by decide

theorem arr_last (w : Fin 6) : (dat m c).arrAt w cfg0.N = V₄ m c (Proc.devRef .tc (Pipeline.arrRef spec0 w)) := by
  unfold V₄
  by_cases h : w = 5
  · subst h; exact (Function.update_self (β := fun b : DevRef τ sig => Buf (Elt F) (⟨c, b⟩ : Loc nD τ sig)) (Proc.devRef .tc main_v17) _ _).symm
  · have hne : ∀ w : Fin 6, w ≠ 5 → (Proc.devRef (τ := τ) .tc (Pipeline.arrRef spec0 w)) ≠ Proc.devRef .tc main_v17 := by decide
    have hin : ∀ w : Fin 6, w ≠ 5 → (cfg0.win w).isOut = false := by decide
    rw [Function.update_of_ne (hne w h)]
    exact (dat m c).arrAt_in w (hin w h) _

theorem hopen0 : iprop(kept (W0 m) (H0 m) c ∗ Pipeline.ownSems0 osem c ∗ levAts L lv)
    ⊢ (|={Set.univ}=> ∃ κ, talkIn (W0 m) (H0 m) κ c : sProp 𝕄) := talk_open (W0 m) (H0 m) c

theorem held_none (W : Valuation τ sig (Elt F)) : (StableHlo.held (c : Thread nD τ) ∅ W : sProp 𝕄) = iprop(emp) := BI.bigSep_empty

theorem hin0 : iprop(Pipeline.scopedRest (Pipeline.pin (pcfgs (F := F)) adm 0).spec c ∗ (∃ r, prngReg c r)
      ∗ StableHlo.held (c.tc : Thread nD τ) ∅ (V₃ m c) ∗ ∃ κ, talkIn (W0 m) (H0 m) κ c)
    ⊢ (pdats m 0 c).Φ 0 := by
  rw [show (pdats m 0 c).Φ 0 = Φ₀ m c from rfl,
    show (Pipeline.scopedRest (Pipeline.pin (pcfgs (F := F)) adm 0).spec c : sProp 𝕄) = scratch c from scratch_eq c]
  unfold Φ₀
  iintro ⟨Hs, Hp, -, Ht⟩
  isplitl [Ht]; · iexact Ht
  isplitl [Hs] <;> iassumption

theorem hout0 : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₄ m c) ∗ Pipeline.ownSems0 osem c ∗ semVal (cell c bar) 0) := by
  rw [show (pdats m 0 c).Φ (Fin.last _) = Φ₁ c from rfl,
    show (Pipeline.scopedRest (Pipeline.pin (pcfgs (F := F)) adm 0).spec c : sProp 𝕄) = scratch c from scratch_eq c, held_none]
  unfold Φ₁
  iintro ⟨Hb, Hz, Hs, Hp⟩
  isplitl [Hs]; · iexact Hs
  isplitl [Hp]; · iexact Hp
  isplitr; · iempintro
  isplitl [Hz]
  · ihave Hn := (show (zeros c : sProp 𝕄) ⊢ Pipeline.ownSems0 osem c from zeros_nine c) $$ Hz
    iexact Hn
  iexact Hb

theorem cut0 (t : Fin ((Pipeline.pin (pcfgs (F := F)) adm 0).N + 1)) (g : GSem nD τ sig) (i : ℕ) (h : 0 < (pdats m 0 c).owed t g i) :
    i ∈ L g ∧ (0 : ℕ) < lv g i := by
  rw [show (pdats m 0 c).owed t = if t.val = 0 then O₀ c else 0 from rfl] at h
  split at h
  · exact O₀_pos h
  · exact absurd h (Nat.lt_irrefl 0)

set_option backward.isDefEq.respectTransparency.types false in
def reg0 : ℝ𝕊 0 :=
  Pipeline.RegionSeg.ofTalk (pcfgs (F := F)) adm (pdats m) 0 defs₀ Variants.none L lv 0 osem (by decide : Pipeline.OwnSemFacts spec0 osem)
    ∅ (bufs \ arrs) (Finset.empty_subset _) kitP rfl (fun c => (body_obligation m c).loose)
    (fun _ => 0) O₀ (fun c => (owed_zero m c).trans (zero_add _).symm) (owed_last m) (fun _ => rfl) (fun _ w => by
      show Dat.share _ w = _; unfold Dat.share; split <;> rfl)
    (V₃ m) (V₄ m) (fun c b hb => by
      rw [Finset.sdiff_empty, Finset.mem_sdiff] at hb
      exact Function.update_of_ne (fun h => hb.2 (by rw [h]; exact arr_mem 5)) _ _)
    (kept (W0 m) (H0 m)) (fun c => semVal (cell c bar) 0) (fun c => iprop(∃ κ, talkIn (W0 m) (H0 m) κ c)) (fun c => semVal (cell c bar) 0)
    (hopen0 m) (hin0 m) (hout0 m)
    (fun c => by iintro H; imodintro; iexact H)
    (fun _ => 0)
    ⟨fun c w s => mem_L c _ (by decide), fun c w s => le_of_eq (by
        show (match roleOf (.dma ((spec0 w).sem s)) with | some k => lvR k 0 | none => 0) = 0; rw [sem_level w s]),
      fun c t g i h => cut0 m c t g i h⟩
    (fun _ => iprop(emp))
    (fun c w => rfl) (fun c w => arr_last m c w)

theorem reg_pre : iprop(StableHlo.held (c : Thread nD τ) bufs (V₃ m c) ∗ bring m c) ⊢ (reg0 m).pre c := by
  show _ ⊢ iprop(StableHlo.held (c.tc : Thread nD τ) (arrs) (V₃ m c) ∗ (∃ r, prngReg c r)
    ∗ (StableHlo.held (c.tc : Thread nD τ) (bufs \ arrs) (V₃ m c) ∗ emp) ∗ kept (W0 m) (H0 m) c ∗ ∃ Wd, owes (c : Thread nD τ) (0 + O₀ c) Wd)
  rw [zero_add, StableHlo.held_sub_split (c.tc : Thread nD τ) arrs_sub (V₃ m c)]
  unfold bring
  iintro ⟨⟨Ha, Hr⟩, Hp, Hk, HO⟩
  isplitl [Ha]; · iexact Ha
  isplitl [Hp]; · iexact Hp
  isplitl [Hr]
  · isplitl [Hr]; · iexact Hr
    iempintro
  isplitl [Hk] <;> iassumption

theorem reg_post : (reg0 m).post c
    ⊢ iprop((StableHlo.held (c : Thread nD τ) bufs (V₄ m c) ∗ semVal (cell c bar) 0) ∗ ∃ W, owes (c : Thread nD τ) (0 : CellTallies nD τ sig ℕ) W) := by
  show iprop(StableHlo.held (c.tc : Thread nD τ) (arrs) (V₄ m c) ∗ (∃ r, prngReg c r)
    ∗ (StableHlo.held (c.tc : Thread nD τ) (bufs \ arrs) (V₄ m c) ∗ emp) ∗ semVal (cell c bar) 0
    ∗ ∃ Wd, owes (c : Thread nD τ) (0 : CellTallies nD τ sig ℕ) Wd) ⊢ _
  rw [StableHlo.held_sub_split (c.tc : Thread nD τ) arrs_sub (V₄ m c)]
  iintro ⟨Ha, -, ⟨Hr, -⟩, Hb, HO⟩
  isplitr [HO]
  · isplitl [Ha Hr]; · isplitl [Ha] <;> iassumption
    iexact Hb
  iexact HO

def segs : List (Pipeline.Seg (pcfgs (F := F)) adm (pdats m) 0 defs₀ Variants.none L lv) :=
  [.host (seg0 m), .host (seg1 m), .host (seg2 m), .region (reg0 m)]

theorem main_eq : main (F := F) c = Pipeline.Seg.run (segs m) := by
  rw [main_chain]; rfl

end Cert.Moe
-- ==== Proof.Start.lean ====
/-
# The kernel's launch

The ghost state the launch starts from, dealt to the devices, and the run of the whole program: every execution ends,
the arguments are as they were, every semaphore counter is zero, and the result is what the body leaves.
-/
module

public import proofs.«01_k».proof.Proof.Run

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Role

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The launch -/

/-- What the launch starts the ghost state from. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's share of it, kept on one device until every device's part is cut from it. -/
def G : Dev nD → sProp 𝕄 := fun d => if d = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun d hd => by unfold G; rw [if_neg (Finset.ne_of_mem_erase hd)]; rfl, BI.bigSep_emp_const]
  unfold G; rw [if_pos rfl]
  exact BI.equiv_iff.mp sep_emp

abbrev T₀ : sProp 𝕄 := iprop(StableHlo.held (c : Thread nD τ) bufs (V₀ m c) ∗ bring m c)
abbrev Tₙ : sProp 𝕄 := iprop(StableHlo.held (c : Thread nD τ) bufs (V₄ m c) ∗ semVal (cell c bar) 0)

/-- What a device holds at launch beside the protocol's ghost state. -/
def bundle : sProp 𝕄 :=
  iprop(StableHlo.held (c : Thread nD τ) bufs (V₀ m c) ∗ credits c ∗ owes (c : Thread nD τ) (O₀ c) ∅ ∗ ∃ r, prngReg c r)

theorem T₀_intro (κ : GSem nD τ sig → ℕ) : iprop(dealt (W0 m) (H0 m) κ ∗ (linear c ∗ bundle m c)) ⊢ T₀ m c := by
  unfold bundle T₀ bring kept
  iintro ⟨#HR, Hl, Hh, Hc, HO, Hp⟩
  isplitl [Hh]; · iexact Hh
  isplitl [Hp]; · iexact Hp
  isplitr [HO]
  · isplitl [Hl]
    · iexists κ
      isplitr; · iexact HR
      iexact Hl
    iexact Hc
  · iexists ∅; iexact HO

theorem core_in : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c bar) 0 ∗ G c)) : sProp 𝕄) := by
  rw [show unscopedBufs c (fun b => m ((c : Thread nD τ).loc b)) = StableHlo.held (c : Thread nD τ) bufs (V₀ m c) from unscopedBufs_held c (V₀ m c),
    unscopedSems0_bar]
  unfold bundle credits
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bars_map (Φ : GSem nD τ sig → sProp 𝕄) : bigSep barCells Φ = bigSep Finset.univ fun c : Dev nD => Φ (cell c bar) := by
  unfold barCells; rw [bigSep_map]; rfl
theorem opens_map : bigSep scCells (fun g => (openTok ER g : sProp 𝕄)) = bigSep Finset.univ fun c : Dev nD => opens c := by
  unfold scCells opens; rw [bigSep_map, bigSep_univ_prod]; rfl

theorem init_split :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ bigSep barCells (fun g => semVal g 0)
          ∗ BI.own (ER (launchOf barCells scCells toks))) : sProp 𝕄) := by
  rw [bars_map, ← G_all, ← bigSep_sep', ← bigSep_sep']
  exact bigSep_mono fun c _ => core_in m ρ c

theorem linear_deal :
    iprop(bigSep barCells (fun g => atPos ER g 0 ∅ 0) ∗ bigSep scCells (fun g => openTok ER g)
        ∗ bigSep toks (fun t => dutyTok ER t.1 t.2.1 t.2.2))
      ⊢ (bigSep Finset.univ fun c : Dev nD => linear c : sProp 𝕄) := by
  rw [bars_map, opens_map]
  unfold linear
  rw [bigSep_sep', bigSep_sep']
  iintro ⟨Ha, Ho, Ht⟩
  isplitl [Ha]; · iexact Ha
  isplitl [Ho]; · iexact Ho
  iapply (toks_deal (F := F)) $$ Ht

theorem T₀_all (κ : GSem nD τ sig → ℕ) :
    iprop(dealt (W0 m) (H0 m) κ ∗ (bigSep Finset.univ fun c : Dev nD => linear c) ∗ bigSep Finset.univ fun c : Dev nD => bundle m c)
      ⊢ (bigSep Finset.univ (T₀ m) : sProp 𝕄) := by
  rw [← bigSep_sep']
  exact bigSep_with_persistent (R := dealt (W0 m) (H0 m) κ) (Φ := fun c => iprop(linear c ∗ bundle m c)) fun c _ => T₀_intro m c κ

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (init_split m ρ) $$ H
  icases H' with ⟨HB, Hv, Hu⟩
  imod (Rounds.fund_launch ER (Rd (W0 m) (H0 m)) cells_disjoint (fun g _ h => h) toks) $$ [Hv Hu] with ⟨%κ, -, #Hinv, #Hr, Hat, Hopen, Htok⟩
  · isplitl [Hv]
    · iexact Hv
    · iexact Hu
  imodintro
  iapply (T₀_all m κ)
  isplitr
  · unfold dealt invs
    isplitr; · iexact Hinv
    iexact Hr
  isplitr [HB]
  · iapply (linear_deal (F := F))
    isplitl [Hat]; · iexact Hat
    isplitl [Hopen]; · iexact Hopen
    iexact Htok
  · iexact HB

theorem unscoped_eq : ∀ sm : SemLoc sig, sm.isScoped .tc = false → sm = semOf bar := by decide

/-- The buffers a claim reads. -/
def readBufs : Finset (DevRef τ sig) :=
  {Proc.devRef .tc main_arg0, Proc.devRef .tc main_arg1, Proc.devRef .tc main_arg2, Proc.devRef .tc main_arg3, Proc.devRef .tc main_v17}
theorem readBufs_sub : readBufs ⊆ bufs := by
  have h : ∀ r : Ref sig .tc, (Proc.devRef (τ := τ) .tc r).isScoped = false → Proc.devRef .tc r ∈ bufs := fun r hr =>
    Finset.mem_filter.mpr ⟨Finset.mem_map_of_mem _ (Finset.mem_univ _), by rw [hr]; decide⟩
  unfold readBufs
  simp only [Finset.insert_subset_iff, Finset.singleton_subset_iff]
  exact ⟨h _ rfl, h _ rfl, h _ rfl, h _ rfl, h _ rfl⟩
theorem readBufs_eq (W : Valuation τ sig (Elt F)) : (StableHlo.held (c : Thread nD τ) readBufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v17) ↦{fullShare} W main_v17)) := by
  unfold StableHlo.held
  rw [bigSep_eq_bigSepL_of_eq [Proc.devRef .tc main_arg0, Proc.devRef .tc main_arg1, Proc.devRef .tc main_arg2, Proc.devRef .tc main_arg3, Proc.devRef .tc main_v17] (by decide) (by decide)]
  rfl

theorem V₄_arg (b : Ref sig .tc) (h : (Proc.devRef (τ := τ) .tc b) ≠ Proc.devRef .tc main_v17) : V₄ m c b = V m c b :=
  (Function.update_of_ne h _ _).trans (V₃_eq m c b)
theorem V₄_out : V₄ m c main_v17 = (dat m c).arrAt 5 cfg0.N := Function.update_self _ _ _

/-- The run: every execution ends, the arguments unchanged, every counter zero, and the result what the body leaves. -/
def RunPost (r : PUnit × MemSt nD τ sig (Elt F)) : Prop :=
  (∀ c : Dev nD, r.2.mem ((c : Thread nD τ).loc main_v17) = (dat m c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

set_option backward.isDefEq.respectTransparency.types false in
theorem run_main : θ_run defs (onTc (τ := τ) (main (F := F))) ⟨m, fun _ => 0, ρ⟩ (RunPost m) :=
  Pipeline.θ_run_regions_kit_sems (pcfgs (F := F)) adm (pdats m) 0 cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => .rfl, fun c => .rfl, fun c => reg_pre m c, fun c => reg_post m c⟩)
    (hinit := init m ρ)
    (QY := fun c s => (s.mem ((c : Thread nD τ).loc main_arg0) = V₄ m c main_arg0
      ∧ s.mem ((c : Thread nD τ).loc main_arg1) = V₄ m c main_arg1 ∧ s.mem ((c : Thread nD τ).loc main_arg2) = V₄ m c main_arg2
      ∧ s.mem ((c : Thread nD τ).loc main_arg3) = V₄ m c main_arg3 ∧ s.mem ((c : Thread nD τ).loc main_v17) = V₄ m c main_v17)
      ∧ s.sem (cell c bar) = 0)
    (hfin := fun c s' => by
      dsimp only [Tₙ]; rw [StableHlo.held_sub_split (c.tc : Thread nD τ) readBufs_sub (V₄ m c), readBufs_eq]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₄_arg m c main_arg0 (by decide), V_main_arg0] at h0
        rw [V₄_arg m c main_arg1 (by decide), V_main_arg1] at h1
        rw [V₄_arg m c main_arg2 (by decide), V_main_arg2] at h2
        rw [V₄_arg m c main_arg3 (by decide), V_main_arg3] at h3
        rw [V₄_out] at h4
        exact ⟨h4, h0, h1, h2, h3⟩,
      sem_eq_zero hs fun c sm hsm => by
        obtain rfl := unscoped_eq sm hsm
        exact (h c).2⟩)

end Cert.Moe
-- ==== Proof.Ref.lean ====
/-
# The reference's run

The reference is a straight line of host operations on one device. Its run ends with the arguments unchanged and with the
result `refOut` of the arguments, which is written here operation by operation.
-/
module

public import proofs.«01_k».proof.ReferenceIdeal
public import Idealize.ShloMosaic.Lib.StableHlo.Run
public import Idealize.ShloMosaic.Lib.Decide

@[expose] public section

noncomputable section

namespace Cert.Moe.Ref

open Cert.ReferenceIdeal
open Idealize.ShloMosaic Idealize.ShloMosaic.TcCoe Idealize.ShloMosaic.StableHlo Idealize.SL.Sem

/-- The side conditions the reference states. -/
theorem facts₀ : Cert.ReferenceIdeal.Facts₀ where
  shapeCasts_S65536x1_S65536 := by decide
  bcast_S65536_S65536x1_0 := by decide
  bcast_S128_S1x128_1 := by decide
  bcast_S65536x1_S65536x128_0_1 := by decide
  bcast_S1x128_S65536x128_0_1 := by decide
  natLt_1_32 := by decide
  bcast_S_S_ := by decide
  reduceWindows_S65536x128_S65536x128_w65536s1p65535_0_w1s1p0_0 := by decide
  h_S_ := by decide
  reducesTo_S65536x128_S65536_d1 := by decide
  bcast_S_S65536 := by decide
  bitsLt_bf16_f32 := by decide
  bcast_S65536x1_S65536x1024_0_1 := by decide
  bcast_S_S65536x1024 := by decide
  gather_S128x512x1024_S65536x1_S65536x512x1024_12_0_n_n_0_1_15121024_wf := by decide
  dot_S65536x512_S65536x512x1024_S65536x1024_1_1_n_2_0_0_wf := by decide

instance facts : Cert.ReferenceIdeal.Facts := { facts₀ with }

open Facts₀ Facts

variable {F : FTy → Type} [FloatOps F]

/-- The operations, in order. -/
abbrev ops : List (HloOp τ sig (Elt F)) :=
  [ StableHlo.reshape main_arg2 main_v0 (rfl : (.i32 : EltTy) = .i32) shapeCasts_S65536x1_S65536,
    StableHlo.unary main_v0 main_v1 (broadcastInDim S65536x1 ![0] bcast_S65536_S65536x1_0 : (⟨S65536, .i32⟩ : BufTy).Contents (Elt F) → (⟨S65536x1, .i32⟩ : BufTy).Contents (Elt F)),
    StableHlo.nullary main_v2 (iotaInDim S128 32 0),
    StableHlo.unary main_v2 main_v3 (broadcastInDim S1x128 ![1] bcast_S128_S1x128_1 : (⟨S128, .i32⟩ : BufTy).Contents (Elt F) → (⟨S1x128, .i32⟩ : BufTy).Contents (Elt F)),
    StableHlo.unary main_v1 main_v4 (broadcastInDim S65536x128 ![0, 1] bcast_S65536x1_S65536x128_0_1 : (⟨S65536x1, .i32⟩ : BufTy).Contents (Elt F) → (⟨S65536x128, .i32⟩ : BufTy).Contents (Elt F)),
    StableHlo.unary main_v3 main_v5 (broadcastInDim S65536x128 ![0, 1] bcast_S1x128_S65536x128_0_1 : (⟨S1x128, .i32⟩ : BufTy).Contents (Elt F) → (⟨S65536x128, .i32⟩ : BufTy).Contents (Elt F)),
    StableHlo.binary main_v4 main_v5 main_v6 (cmpi .eq : (⟨S65536x128, .i32⟩ : BufTy).Contents (Elt F) → (⟨S65536x128, .i32⟩ : BufTy).Contents (Elt F) → (⟨S65536x128, .i1⟩ : BufTy).Contents (Elt F)),
    StableHlo.unary main_v6 main_v7 ((extui 32 · natLt_1_32) : (⟨S65536x128, .i1⟩ : BufTy).Contents (Elt F) → (⟨S65536x128, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v7 : StableHlo.TRef sig ⟨S65536x128, .i32⟩) (.of main_call0_call0_v0 : StableHlo.TRef sig ⟨S_, .i32⟩) (.of main_v8 : StableHlo.TRef sig ⟨S65536x128, .i32⟩) (fun x v => Host.reduceWindow IntOp.addi ![65536, 1] ![1, 1] ![65535, 0] ![0, 0] x v reduceWindows_S65536x128_S65536x128_w65536s1p65535_0_w1s1p0_0 h_S_),
    StableHlo.binary main_v8 main_v7 main_v9 (subi : (⟨S65536x128, .i32⟩ : BufTy).Contents (Elt F) → (⟨S65536x128, .i32⟩ : BufTy).Contents (Elt F) → (⟨S65536x128, .i32⟩ : BufTy).Contents (Elt F)),
    StableHlo.binary main_v9 main_v7 main_v10 (muli : (⟨S65536x128, .i32⟩ : BufTy).Contents (Elt F) → (⟨S65536x128, .i32⟩ : BufTy).Contents (Elt F) → (⟨S65536x128, .i32⟩ : BufTy).Contents (Elt F)),
    StableHlo.nullary main_c (constantI S_ 32 0#32),
    StableHlo.binary main_v10 main_c main_v11 ((fun x v => Host.reduce IntOp.addi x v reducesTo_S65536x128_S65536_d1 h_S_) : (⟨S65536x128, .i32⟩ : BufTy).Contents (Elt F) → (⟨S_, .i32⟩ : BufTy).Contents (Elt F) → (⟨S65536, .i32⟩ : BufTy).Contents (Elt F)),
    StableHlo.nullary main_c_0 (constantI S_ 32 0#32),
    StableHlo.unary main_c_0 main_v12 (broadcastInDim S65536 ![] bcast_S_S65536 : (⟨S_, .i32⟩ : BufTy).Contents (Elt F) → (⟨S65536, .i32⟩ : BufTy).Contents (Elt F)),
    StableHlo.binary main_v0 main_v12 main_v13 (cmpi .sge : (⟨S65536, .i32⟩ : BufTy).Contents (Elt F) → (⟨S65536, .i32⟩ : BufTy).Contents (Elt F) → (⟨S65536, .i1⟩ : BufTy).Contents (Elt F)),
    StableHlo.nullary main_c_1 (constantI S_ 32 128#32),
    StableHlo.unary main_c_1 main_v14 (broadcastInDim S65536 ![] bcast_S_S65536 : (⟨S_, .i32⟩ : BufTy).Contents (Elt F) → (⟨S65536, .i32⟩ : BufTy).Contents (Elt F)),
    StableHlo.binary main_v0 main_v14 main_v15 (cmpi .slt : (⟨S65536, .i32⟩ : BufTy).Contents (Elt F) → (⟨S65536, .i32⟩ : BufTy).Contents (Elt F) → (⟨S65536, .i1⟩ : BufTy).Contents (Elt F)),
    StableHlo.binary main_v13 main_v15 main_v16 (andi : (⟨S65536, .i1⟩ : BufTy).Contents (Elt F) → (⟨S65536, .i1⟩ : BufTy).Contents (Elt F) → (⟨S65536, .i1⟩ : BufTy).Contents (Elt F)),
    StableHlo.nullary main_c_2 (constantI S_ 32 409#32),
    StableHlo.unary main_c_2 main_v17 (broadcastInDim S65536 ![] bcast_S_S65536 : (⟨S_, .i32⟩ : BufTy).Contents (Elt F) → (⟨S65536, .i32⟩ : BufTy).Contents (Elt F)),
    StableHlo.binary main_v11 main_v17 main_v18 (cmpi .slt : (⟨S65536, .i32⟩ : BufTy).Contents (Elt F) → (⟨S65536, .i32⟩ : BufTy).Contents (Elt F) → (⟨S65536, .i1⟩ : BufTy).Contents (Elt F)),
    StableHlo.binary main_v16 main_v18 main_v19 (andi : (⟨S65536, .i1⟩ : BufTy).Contents (Elt F) → (⟨S65536, .i1⟩ : BufTy).Contents (Elt F) → (⟨S65536, .i1⟩ : BufTy).Contents (Elt F)),
    StableHlo.unary main_arg3 main_v20 ((extf .f32 · bitsLt_bf16_f32) : (⟨S128x512x1024, .bf16⟩ : BufTy).Contents (Elt F) → (⟨S128x512x1024, .f32⟩ : BufTy).Contents (Elt F)),
    StableHlo.TRef.unary (.of main_v0 : StableHlo.TRef sig ⟨S65536, .i32⟩) (.of main_call1_v0 : StableHlo.TRef sig ⟨S65536x1, .i32⟩) (broadcastInDim S65536x1 ![0] bcast_S65536_S65536x1_0),
    StableHlo.TRef.binary (.of main_v20 : StableHlo.TRef sig ⟨S128x512x1024, .f32⟩) (.of main_call1_v0 : StableHlo.TRef sig ⟨S65536x1, .i32⟩) (.of main_v21 : StableHlo.TRef sig ⟨S65536x512x1024, .f32⟩) (fun x i => Host.gather gather_S128x512x1024_S65536x1_S65536x512x1024_12_0_n_n_0_1_15121024 x i),
    StableHlo.unary main_arg0 main_v22 ((extf .f32 · bitsLt_bf16_f32) : (⟨S65536x512, .bf16⟩ : BufTy).Contents (Elt F) → (⟨S65536x512, .f32⟩ : BufTy).Contents (Elt F)),
    StableHlo.binary main_v22 main_v21 main_v23 ((fun l r => Host.dotGeneral dot_S65536x512_S65536x512x1024_S65536x1024_1_1_n_2_0_0 none l r) : (⟨S65536x512, .f32⟩ : BufTy).Contents (Elt F) → (⟨S65536x512x1024, .f32⟩ : BufTy).Contents (Elt F) → (⟨S65536x1024, .f32⟩ : BufTy).Contents (Elt F)),
    StableHlo.unary main_v19 main_v24 (broadcastInDim S65536x1 ![0] bcast_S65536_S65536x1_0 : (⟨S65536, .i1⟩ : BufTy).Contents (Elt F) → (⟨S65536x1, .i1⟩ : BufTy).Contents (Elt F)),
    StableHlo.nullary main_cst (constant S_ .f32 0x00000000#32),
    StableHlo.TRef.unary (.of main_cst : StableHlo.TRef sig ⟨S_, .f32⟩) (.of main_call2_v0 : StableHlo.TRef sig ⟨S_, .f32⟩) id,
    StableHlo.TRef.unary (.of main_v24 : StableHlo.TRef sig ⟨S65536x1, .i1⟩) (.of main_call2_v1 : StableHlo.TRef sig ⟨S65536x1024, .i1⟩) (broadcastInDim S65536x1024 ![0, 1] bcast_S65536x1_S65536x1024_0_1),
    StableHlo.TRef.unary (.of main_call2_v0 : StableHlo.TRef sig ⟨S_, .f32⟩) (.of main_call2_v2 : StableHlo.TRef sig ⟨S65536x1024, .f32⟩) (broadcastInDim S65536x1024 ![] bcast_S_S65536x1024),
    StableHlo.TRef.ternary (.of main_call2_v1 : StableHlo.TRef sig ⟨S65536x1024, .i1⟩) (.of main_v23 : StableHlo.TRef sig ⟨S65536x1024, .f32⟩) (.of main_call2_v2 : StableHlo.TRef sig ⟨S65536x1024, .f32⟩) (.of main_v25 : StableHlo.TRef sig ⟨S65536x1024, .f32⟩) select ]

theorem main_eq (c : Dev nD) : main (F := F) c = seq ops := rfl

theorem ops_sub : (ops : List (HloOp τ sig (Elt F))).Forall fun op => op.bufs ⊆ tcRefs τ sig :=
  ⟨reshape_bufs_sub .., unary_bufs_sub .., nullary_bufs_sub .., unary_bufs_sub .., unary_bufs_sub .., unary_bufs_sub .., binary_bufs_sub .., unary_bufs_sub .., nullary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub .., unary_bufs_sub .., binary_bufs_sub .., unary_bufs_sub .., nullary_bufs_sub .., unary_bufs_sub .., unary_bufs_sub .., unary_bufs_sub .., ternary_bufs_sub ..⟩

/-! ## The result, operation by operation -/

section
variable (x : Vec F S65536x512 .bf16) (e : Vec F S65536x1 .i32) (w : Vec F S128x512x1024 .bf16)

/-- The expert of each token. -/
def expert : Vec F S65536 .i32 := shapeCast S65536 e shapeCasts_S65536x1_S65536
/-- Token by expert: one where the token goes to the expert. -/
def oneHot : Vec F S65536x128 .i32 :=
  extui 32 (cmpi .eq
    (broadcastInDim S65536x128 ![0, 1] bcast_S65536x1_S65536x128_0_1 (broadcastInDim S65536x1 ![0] bcast_S65536_S65536x1_0 (expert (F := F) e)))
    (broadcastInDim S65536x128 ![0, 1] bcast_S1x128_S65536x128_0_1 (broadcastInDim S1x128 ![1] bcast_S128_S1x128_1 (iotaInDim S128 32 0)))) natLt_1_32
/-- How many tokens up to this one go to the expert. -/
def upTo : Vec F S65536x128 .i32 :=
  Host.reduceWindow IntOp.addi ![65536, 1] ![1, 1] ![65535, 0] ![0, 0] (oneHot (F := F) e) (broadcastInDim S_ ![] bcast_S_S_ (constantI S_ 32 0#32))
    reduceWindows_S65536x128_S65536x128_w65536s1p65535_0_w1s1p0_0 h_S_
/-- How many tokens before this one go to its expert. -/
def rank : Vec F S65536 .i32 :=
  Host.reduce IntOp.addi (muli (subi (upTo (F := F) e) (oneHot (F := F) e)) (oneHot (F := F) e)) (constantI S_ 32 0#32) reducesTo_S65536x128_S65536_d1 h_S_
/-- Whether the token is kept: its expert exists and has room. -/
def keep : Vec F S65536 .i1 :=
  andi (andi (cmpi .sge (expert (F := F) e) (broadcastInDim S65536 ![] bcast_S_S65536 (constantI S_ 32 0#32)))
      (cmpi .slt (expert (F := F) e) (broadcastInDim S65536 ![] bcast_S_S65536 (constantI S_ 32 128#32))))
    (cmpi .slt (rank (F := F) e) (broadcastInDim S65536 ![] bcast_S_S65536 (constantI S_ 32 409#32)))
/-- Each token's expert's weights. -/
def taken : Vec F S65536x512x1024 .f32 :=
  Host.gather gather_S128x512x1024_S65536x1_S65536x512x1024_12_0_n_n_0_1_15121024 (extf .f32 w bitsLt_bf16_f32)
    (broadcastInDim S65536x1 ![0] bcast_S65536_S65536x1_0 (expert (F := F) e))
/-- Each token times its expert's weights. -/
def prod : Vec F S65536x1024 .f32 :=
  Host.dotGeneral dot_S65536x512_S65536x512x1024_S65536x1024_1_1_n_2_0_0 none (extf .f32 x bitsLt_bf16_f32) (taken e w)
/-- The result: the product where the token is kept, zero elsewhere. -/
def refOut : Vec F S65536x1024 .f32 :=
  select (broadcastInDim S65536x1024 ![0, 1] bcast_S65536x1_S65536x1024_0_1 (broadcastInDim S65536x1 ![0] bcast_S65536_S65536x1_0 (keep (F := F) e)))
    (prod x e w) (broadcastInDim S65536x1024 ![] bcast_S_S65536x1024 (constant S_ .f32 0x00000000#32))
end

theorem out_eq (V : Valuation τ sig (Elt F)) :
    after ops V (main_v25 : DevRef τ sig) = refOut (V (main_arg0 : DevRef τ sig)) (V (main_arg2 : DevRef τ sig)) (V (main_arg3 : DevRef τ sig)) := by
  after_results_simp
  simp only [TRef.ofBuf_toBuf]
  simp only [TRef.ofBuf, TRef.toBuf, cast_eq, id]
  unfold refOut prod taken keep rank upTo oneHot expert
  rfl

theorem arg_eq (V : Valuation τ sig (Elt F)) (b : Ref sig .tc) (h : b ∈ [main_arg0, main_arg1, main_arg2, main_arg3]) :
    after ops V (b : DevRef τ sig) = V (b : DevRef τ sig) := by
  simp only [List.mem_cons, List.not_mem_nil, or_false] at h
  rcases h with rfl | rfl | rfl | rfl <;> after_results_simp

theorem scopedRefs_eq : (Finset.univ.filter fun b : Ref sig .tc => b.isScoped) = ∅ := by decide
theorem scopedSems_eq : (Finset.univ.filter fun sm : SemLoc sig => sm.isScoped .tc) = ∅ := by decide

/-- There is no semaphore. -/
theorem sem_none (s : MemSt nD τ sig (Elt F)) : s.sem = fun _ => 0 := funext fun g => by
  obtain ⟨_, s⟩ := g
  rcases s with s | s <;> exact absurd s.isLt (Nat.not_lt_zero _)

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v25)
          = refOut (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run defs _ _).mono (fun r h => ⟨fun c => ⟨(h c main_v25).trans (out_eq _), (h c main_arg0).trans (arg_eq _ _ (by simp)),
      (h c main_arg1).trans (arg_eq _ _ (by simp)), (h c main_arg2).trans (arg_eq _ _ (by simp)), (h c main_arg3).trans (arg_eq _ _ (by simp))⟩, sem_none _⟩)
    (run_seq scopedRefs_eq scopedSems_eq defs main (fun _ => ops) main_eq (fun _ => ops_sub) m ρ)

end Cert.Moe.Ref
-- ==== Proof.StepValue.lean ====
/-
# The accumulator's value

The accumulator after all the hops, at a token and a column: the token times its expert's weights where the expert exists,
zero elsewhere.
-/
module

public import proofs.«01_k».proof.Proof.Acc
public import Idealize.ShloMosaic.Lib.Pointwise
public import Idealize.ShloMosaic.Lib.IdealHost

@[expose] public section

noncomputable section

namespace Cert.Moe

open Cert.KernelIdeal Cert.KernelIdeal.Gen
open Idealize.ShloMosaic hiding ix0 ix1 ix2 ix3
open Idealize.ShloMosaic.ValueIdx

/-- A comparison's bit, as a float. -/
theorem bit_val (b : Bool) : ((((BitVec.setWidth 32 (BitVec.ofBool b)).toInt : ℝ)) : EReal) = if b then 1 else 0 := by
  cases b <;> simp

variable (x : Vec Ideal S2048x512 .bf16) (e : Vec Ideal S2048x1 .i32)

/-- The expert word of a device's token. -/
def ew (r : Fin 2048) : BitVec 32 := e (ix2 r (0 : Fin 1))

theorem pick_apply (o k : BitVec 32) (r : Fin 2048) (d : Fin 512) :
    pick (F := Ideal) o k x e (ix2 r d) = if ew e r = o * 4#32 + k then x (ix2 r d) else 0 := by
  have h : pick (F := Ideal) o k x e (ix2 r d) = x (ix2 r d) * if ew e r == o * 4#32 + k then 1 else 0 := by
    rw [← bit_val]
    unfold pick
    rw [← Idealize.ShloMosaic.ix2_eq_valueIdx]
    pointwise
    rfl
  rw [h]
  by_cases g : ew e r = o * 4#32 + k
  · rw [if_pos g, if_pos (beq_iff_eq.2 g), mul_one]
  · rw [if_neg g, if_neg (by simpa using g), mul_zero]

/-- Four pieces side by side. -/
def four (p : Fin 4 → FVec Ideal S2048x512 .bf16) : FVec Ideal S2048x2048 .bf16 :=
  concatenate S2048x2048 1 [⟨_, p 0⟩, ⟨_, p 1⟩, ⟨_, p 2⟩, ⟨_, p 3⟩] concatenates_S2048x512_S2048x512_S2048x512_S2048x512_S2048x2048_d1

theorem four_apply (p : Fin 4 → FVec Ideal S2048x512 .bf16) (r : Fin 2048) (k : Fin 4) (d : Fin 512) :
    four p (ix2 r (finProdFinEquiv (k, d) : Fin 2048)) = p k (ix2 r d) := by
  have hp : 512 * k.val + d.val = (finProdFinEquiv (k, d) : Fin (4 * 512)).val := by
    show _ = d.val + 512 * k.val; ring
  have hb : ∀ b : Fin S2048x512.rank, b.cast (rfl : S2048x512.rank = S2048x2048.rank) ≠ 1 →
      ((ix2 r d : S2048x512.Idx) b).val = ((ix2 r (finProdFinEquiv (k, d) : Fin 2048) : S2048x2048.Idx) (b.cast rfl)).val := fun b hb => by
    match b with
    | ⟨0, _⟩ => rfl
    | ⟨1, _⟩ => exact absurd rfl hb
  unfold four
  let xs : List ((s : Shape) × (s.Idx → Ideal .bf16)) := [⟨S2048x512, p 0⟩, ⟨S2048x512, p 1⟩, ⟨S2048x512, p 2⟩, ⟨S2048x512, p 3⟩]
  match k with
  | ⟨0, _⟩ => exact concatenate_apply_piece (t := S2048x2048) 1 xs _ _ 0 (by show 0 < 4; omega) S2048x512 _ rfl rfl 0 rfl (ix2 r d) hb hp
  | ⟨1, _⟩ => exact concatenate_apply_piece (t := S2048x2048) 1 xs _ _ 1 (by show 1 < 4; omega) S2048x512 _ rfl rfl 512 rfl (ix2 r d) hb hp
  | ⟨2, _⟩ => exact concatenate_apply_piece (t := S2048x2048) 1 xs _ _ 2 (by show 2 < 4; omega) S2048x512 _ rfl rfl 1024 rfl (ix2 r d) hb hp
  | ⟨3, _⟩ => exact concatenate_apply_piece (t := S2048x2048) 1 xs _ _ 3 (by show 3 < 4; omega) S2048x512 _ rfl rfl 1536 rfl (ix2 r d) hb hp

theorem product_apply (T : FVec Ideal S2048x2048 .bf16) (U : FVec Ideal S2048x1024 .bf16) (A : FVec Ideal S2048x1024 .f32) (r : Fin 2048) (j : Fin 1024) :
    addf A (matmul dot_S2048x2048_S2048x1024_S2048x1024_1_0_0_1_n_n none T U (constant S2048x1024 .f32 0x00000000#32)) (ix2 r j)
      = A (ix2 r j) + ∑ q : Fin 2048, T (ix2 r q) * U (ix2 q j) := by
  rw [← Idealize.ShloMosaic.ix2_eq_valueIdx]
  pointwise
  simp only [Idealize.ShloMosaic.ix2_eq_valueIdx]

theorem step_apply (o : BitVec 32) (W : Vec Ideal S4x512x1024 .bf16) (A : Vec Ideal S2048x1024 .f32) (r : Fin 2048) (j : Fin 1024) :
    stepW (F := Ideal) o x e W A (ix2 r j)
      = A (ix2 r j) + ∑ k : Fin 4, ∑ d : Fin 512, (if ew e r = o * 4#32 + BitVec.ofNat 32 k.val then x (ix2 r d) else 0) * W (ix3 k d j) := by
  have hU : ∀ (k : Fin 4) (d : Fin 512), shapeCast S2048x1024 W shapeCasts_S4x512x1024_S2048x1024 (ix2 (finProdFinEquiv (k, d) : Fin 2048) j) = W (ix3 k d j) :=
    fun k d => shapeCast_apply W _ _ _ (by
      rw [Shape.rowMajor_val_three, Shape.rowMajor_val_two]
      show (k.val * 512 + d.val) * 1024 + j.val = (d.val + 512 * k.val) * 1024 + j.val
      ring)
  show addf A (matmul dot_S2048x2048_S2048x1024_S2048x1024_1_0_0_1_n_n none (four fun k => pick (F := Ideal) o (BitVec.ofNat 32 k.val) x e)
    (shapeCast S2048x1024 W shapeCasts_S4x512x1024_S2048x1024) (constant S2048x1024 .f32 0x00000000#32)) (ix2 r j) = _
  rw [product_apply]
  congr 1
  rw [← (finProdFinEquiv (m := 4) (n := 512)).sum_comp, Fintype.sum_prod_type]
  exact Finset.sum_congr rfl fun k _ => Finset.sum_congr rfl fun d _ => by rw [four_apply, hU, pick_apply]

/-- What device `o`'s experts add at token `r` and column `j`. -/
def gain (w : Vec Ideal ⟨3, ![128, 512, 1024]⟩ .bf16) (r : Fin 2048) (j : Fin 1024) (l : Fin 128) : EReal :=
  if (ew e r).toNat = l.val then ∑ d : Fin 512, x (ix2 r d) * w (ix3 l d j) else 0

variable (WV : Dev nD → Vec Ideal S4x512x1024 .bf16) (w : Vec Ideal ⟨3, ![128, 512, 1024]⟩ .bf16)
  (hW : ∀ (c : Dev nD) (k : Fin 4) (d : Fin 512) (j : Fin 1024), WV c (ix3 k d j) = w (ix3 (finProdFinEquiv (c, k) : Fin 128) d j))

theorem expert_word (v : BitVec 32) (c : Dev nD) (k : Fin 4) :
    v = word c * 4#32 + BitVec.ofNat 32 k.val ↔ v.toNat = (finProdFinEquiv (c, k) : Fin (32 * 4)).val := by
  have h1 : c.val < 32 := c.isLt
  have h2 := k.isLt
  show _ ↔ v.toNat = k.val + 4 * c.val
  rw [← BitVec.toNat_inj, word, BitVec.toNat_add, BitVec.toNat_mul, BitVec.toNat_ofNat, BitVec.toNat_ofNat, BitVec.toNat_ofNat]
  omega

include hW in
theorem hop_apply (c : Dev nD) (A : Vec Ideal S2048x1024 .f32) (r : Fin 2048) (j : Fin 1024) :
    stepW (F := Ideal) (word c) x e (WV c) A (ix2 r j)
      = A (ix2 r j) + ∑ k : Fin 4, gain x e w r j (finProdFinEquiv (c, k) : Fin 128) := by
  rw [step_apply]
  congr 1
  refine Finset.sum_congr rfl fun k _ => ?_
  unfold gain
  by_cases h : ew e r = word c * 4#32 + BitVec.ofNat 32 k.val
  · rw [if_pos ((expert_word _ c k).1 h)]
    exact Finset.sum_congr rfl fun d _ => by rw [if_pos h, hW]
  · rw [if_neg (fun g => h ((expert_word _ c k).2 g))]
    exact Finset.sum_eq_zero fun d _ => by rw [if_neg h, zero_mul]

include hW in
theorem acc_apply (c : Dev nD) (r : Fin 2048) (j : Fin 1024) (n : ℕ) :
    acc (F := Ideal) WV c x e n (ix2 r j)
      = ∑ h ∈ Finset.range n, ∑ k : Fin 4, gain x e w r j (finProdFinEquiv (org c h, k) : Fin 128) := by
  induction n with
  | zero => exact Ideal.ofBits_zero_f32
  | succ n ih => rw [acc, hop_apply x e WV w hW, ih, Finset.sum_range_succ]

theorem org_bijective : ∀ c : Dev nD, Function.Bijective fun h : Fin 32 => (org c h.val : Fin 32) := fun c =>
  Finite.injective_iff_bijective.1 (by revert c; decide +kernel)

include hW in
theorem acc_all (c : Dev nD) (r : Fin 2048) (j : Fin 1024) :
    acc (F := Ideal) WV c x e 32 (ix2 r j)
      = if h : (ew e r).toNat < 128 then ∑ d : Fin 512, x (ix2 r d) * w (ix3 ⟨(ew e r).toNat, h⟩ d j) else 0 := by
  rw [acc_apply x e WV w hW, Finset.sum_range,
    (org_bijective c).sum_comp fun c' : Fin 32 => ∑ k : Fin 4, gain x e w r j (finProdFinEquiv (c', k) : Fin 128),
    ← Fintype.sum_prod_type' fun (c' : Fin 32) (k : Fin 4) => gain x e w r j (finProdFinEquiv (c', k) : Fin 128),
    (finProdFinEquiv (m := 32) (n := 4)).sum_comp fun l : Fin 128 => gain x e w r j l]
  unfold gain
  split
  · next h =>
    rw [Finset.sum_eq_single (⟨(ew e r).toNat, h⟩ : Fin 128)]
    · exact if_pos rfl
    · exact fun l _ hl => if_neg fun g => hl (Fin.ext g.symm)
    · exact fun h => absurd (Finset.mem_univ _) h
  · next h => exact Finset.sum_eq_zero fun l _ => if_neg fun g => h (lt_of_eq_of_lt g l.isLt)

end Cert.Moe
-- ==== Proof.Count.lean ====
/-
# Counting tokens

The integer half of both programs, at any number of tokens: a one-hot matrix of the tokens' experts, its running sums down the
tokens, and the number of earlier tokens with a token's own expert.
-/
module

public import Idealize.ShloMosaic.Lib.Pointwise
public import Idealize.ShloMosaic.Lib.Routing.OpsOne
public import Idealize.ShloMosaic.Lib.WordSum
public import Idealize.ShloMosaic.Lib.IndicatorCount

@[expose] public section

noncomputable section

namespace Cert.Moe

open Idealize.ShloMosaic hiding ix0 ix1 ix2 ix3
open Idealize.ShloMosaic.ValueIdx Idealize.ShloMosaic.Routing

/-- How many tokens go to expert `v`. -/
def total {N : ℕ} (e : Fin N → BitVec 32) (v : BitVec 32) : ℕ := (Finset.univ.filter fun i => e i = v).card

/-- How many tokens before token `r` go to its expert. -/
def before {N : ℕ} (e : Fin N → BitVec 32) (r : Fin N) : ℕ := (Finset.univ.filter fun i => i < r ∧ e i = e r).card

theorem before_lt {N : ℕ} (e : Fin N → BitVec 32) (r : Fin N) : before e r < N :=
  lt_of_lt_of_eq (Finset.card_lt_card (Finset.ssubset_univ_iff.2 fun h =>
    absurd (Finset.mem_filter.1 (h ▸ Finset.mem_univ r)).2.1 (lt_irrefl r))) (Finset.card_fin N)

theorem total_le {N : ℕ} (e : Fin N → BitVec 32) (v : BitVec 32) : total e v ≤ N :=
  le_of_le_of_eq (Finset.card_le_univ _) (Fintype.card_fin N)

/-- A sum of ones and zeros is the word of a count. -/
theorem sum_indicator {ι : Type} [Fintype ι] (p : ι → Prop) [DecidablePred p] :
    (∑ i : ι, if p i then 1#32 else 0#32) = BitVec.ofNat 32 (Finset.univ.filter p).card := by
  rw [show (∑ i : ι, if p i then 1#32 else 0#32) = ∑ i : ι, if p i then (1 : BitVec 32) else 0 from rfl, Finset.sum_boole]
  exact BitVec.ofNat_eq_ofNat.symm

/-- The one-hot matrix's row sum of a product with itself picks the token's own expert. -/
theorem sum_own (w : BitVec 32) (g : Fin 128 → BitVec 32) :
    (∑ l : Fin 128, g l * (if w = BitVec.ofNat 32 l.val then 1#32 else 0#32)) = if h : w.toNat < 128 then g ⟨w.toNat, h⟩ else 0#32 := by
  split
  · next h =>
    rw [Finset.sum_eq_single (⟨w.toNat, h⟩ : Fin 128)]
    · rw [if_pos (BitVec.eq_of_toNat_eq (by simp))]; exact mul_one _
    · intro l _ hl
      rw [if_neg fun e => hl (Fin.ext (by
        have e' := congrArg BitVec.toNat e; rw [BitVec.toNat_ofNat] at e'; have := l.isLt; show l.val = w.toNat; omega))]
      exact mul_zero _
    · exact fun h => absurd (Finset.mem_univ _) h
  · next h =>
    refine Finset.sum_eq_zero fun l _ => ?_
    rw [if_neg fun e => h (by rw [e, BitVec.toNat_ofNat]; have := l.isLt; omega)]
    exact mul_zero _

/-- A fold of word additions is a sum. -/
theorem fold_addi {ι : Type} (S : Finset ι) (g : ι → BitVec 32) : S.fold IntOp.addi 0#32 g = ∑ i ∈ S, g i := by
  induction S using Finset.cons_induction with
  | empty => rfl
  | cons a S ha ih => rw [Finset.fold_cons, Finset.sum_cons, ih]; rfl

/-- The host's sum of a matrix's rows. -/
theorem reduce_rows {N C : ℕ} (M : IVec (shape2 N C) 32) (h : (shape2 N C).ReducesTo [1] (shape1 N)) (hu : 0 < shape0.numel) (r : Fin N) :
    Host.reduce IntOp.addi M (constantI shape0 32 0#32) h hu (ix1 r) = ∑ l : Fin C, M (ix2 r l) := by
  rw [Host.reduce_eq_fold]
  exact (fold_addi _ M).trans (h.sum_fiber_r2_a1 _ M)

/-- The host's sum of a matrix's columns. -/
theorem reduce_cols {N C : ℕ} (M : IVec (shape2 N C) 32) (h : (shape2 N C).ReducesTo [0] (shape1 C)) (hu : 0 < shape0.numel) (l : Fin C) :
    Host.reduce IntOp.addi M (constantI shape0 32 0#32) h hu (ix1 l) = ∑ i : Fin N, M (ix2 i l) := by
  rw [Host.reduce_eq_fold]
  exact (fold_addi _ M).trans (h.sum_fiber_r2_a0 _ M)

theorem rank_apply {N p : ℕ} (hN : p + 1 = N) (e : Fin N → BitVec 32) (O : IVec (shape2 N 128) 32)
    (hO : ∀ i l, O (ix2 i l) = if e i = BitVec.ofNat 32 l.val then 1#32 else 0#32) (init : IVec shape0 32) (hinit : init ix0 = 0#32)
    (hw : (shape2 N 128).ReduceWindows (![N, 1] : Fin 2 → Nat) ![1, 1] ![p, 0] ![0, 0] (shape2 N 128)) (hu : 0 < shape0.numel)
    (hr : (shape2 N 128).ReducesTo [1] (shape1 N)) (r : Fin N) :
    Host.reduce IntOp.addi (muli (subi (Host.reduceWindow IntOp.addi ![N, 1] ![1, 1] ![p, 0] ![0, 0] O init hw hu) O) O)
        (constantI shape0 32 0#32) hr hu (ix1 r)
      = if (e r).toNat < 128 then BitVec.ofNat 32 (before e r) else 0#32 := by
  have key : ∀ l : Fin 128, muli (subi (Host.reduceWindow IntOp.addi ![N, 1] ![1, 1] ![p, 0] ![0, 0] O init hw hu) O) O (ix2 r l)
      = (∑ i : Fin N, if i < r then O (ix2 i l) else 0) * (if e r = BitVec.ofNat 32 l.val then 1#32 else 0#32) := fun l => by
    show (Host.reduceWindow IntOp.addi ![N, 1] ![1, 1] ![p, 0] ![0, 0] O init hw hu (ix2 r l) - O (ix2 r l)) * O (ix2 r l) = _
    rw [cumsum_rows_sum hN O init hinit hw hu r l, prefix_sub_last (fun i => O (ix2 i l)) r, hO r l]
  rw [reduce_rows, Finset.sum_congr rfl fun l _ => key l, sum_own]
  by_cases h : (e r).toNat < 128
  · rw [dif_pos h, if_pos h]
    have own : BitVec.ofNat 32 (e r).toNat = e r := BitVec.eq_of_toNat_eq (by simp)
    refine Eq.trans (Finset.sum_congr rfl fun i _ => ?_) (sum_indicator fun i => i < r ∧ e i = e r)
    rw [hO i]
    show (if i < r then (if e i = BitVec.ofNat 32 (e r).toNat then 1#32 else 0#32) else 0#32) = _
    rw [own]
    by_cases h1 : i < r <;> by_cases h2 : e i = e r <;> simp [h1, h2]
  · rw [dif_neg h, if_neg h]

/-- The column sums of the one-hot matrix count each expert's tokens. -/
theorem hist_apply {N : ℕ} (e : Fin N → BitVec 32) (O : IVec (shape2 N 128) 32)
    (hO : ∀ i l, O (ix2 i l) = if e i = BitVec.ofNat 32 l.val then 1#32 else 0#32) (hu : 0 < shape0.numel)
    (hr : (shape2 N 128).ReducesTo [0] (shape1 128)) (l : Fin 128) :
    Host.reduce IntOp.addi O (constantI shape0 32 0#32) hr hu (ix1 l) = BitVec.ofNat 32 (total e (BitVec.ofNat 32 l.val)) := by
  rw [reduce_cols, Finset.sum_congr rfl fun i _ => hO i l]
  exact sum_indicator fun i => e i = BitVec.ofNat 32 l.val

/-! ## Tokens in blocks -/

/-- Token `r` of block `c`. -/
def tok {n b : ℕ} (c : Fin n) (r : Fin b) : Fin (n * b) := ⟨c.val * b + r.val, by
  have := c.isLt; have := r.isLt
  calc c.val * b + r.val < c.val * b + b := by omega
    _ = (c.val + 1) * b := by ring
    _ ≤ n * b := Nat.mul_le_mul_right _ (by omega)⟩

/-- The tokens of a token's expert before it: those of the earlier blocks and those of its own. -/
theorem before_tok {n b : ℕ} (E : Fin (n * b) → BitVec 32) (c : Fin n) (r : Fin b) :
    before E (tok c r) = (∑ c' : Fin n, if c' < c then total (fun i => E (tok c' i)) (E (tok c r)) else 0)
      + before (fun i => E (tok c i)) r := by
  have lt_iff : ∀ (c' : Fin n) (i : Fin b), tok c' i < tok c r ↔ c' < c ∨ (c' = c ∧ i < r) := fun c' i => by
    have h1 := i.isLt; have h2 := r.isLt
    show c'.val * b + i.val < c.val * b + r.val ↔ c'.val < c.val ∨ (c' = c ∧ i.val < r.val)
    rw [Fin.ext_iff]
    rcases lt_trichotomy c'.val c.val with h | h | h
    · have : (c'.val + 1) * b ≤ c.val * b := Nat.mul_le_mul_right _ h
      have : (c'.val + 1) * b = c'.val * b + b := by ring
      constructor
      · intro _; exact Or.inl h
      · intro _; omega
    · rw [h]; constructor
      · intro h'; right; exact ⟨rfl, by omega⟩
      · rintro (h' | ⟨_, h'⟩) <;> omega
    · have : (c.val + 1) * b ≤ c'.val * b := Nat.mul_le_mul_right _ h
      have : (c.val + 1) * b = c.val * b + b := by ring
      constructor
      · intro _; omega
      · rintro (h' | ⟨h', _⟩) <;> omega
  have bij : Function.Bijective fun q : Fin n × Fin b => tok q.1 q.2 := by
    refine (Fintype.bijective_iff_injective_and_card _).2 ⟨fun q q' h => ?_, by simp⟩
    obtain ⟨c₁, i₁⟩ := q; obtain ⟨c₂, i₂⟩ := q'
    have h : c₁.val * b + i₁.val = c₂.val * b + i₂.val := congrArg Fin.val h
    have h1 := i₁.isLt; have h2 := i₂.isLt
    have : c₁.val = c₂.val := by
      rcases lt_trichotomy c₁.val c₂.val with g | g | g
      · have : (c₁.val + 1) * b ≤ c₂.val * b := Nat.mul_le_mul_right _ g
        have : (c₁.val + 1) * b = c₁.val * b + b := by ring
        omega
      · exact g
      · have : (c₂.val + 1) * b ≤ c₁.val * b := Nat.mul_le_mul_right _ g
        have : (c₂.val + 1) * b = c₂.val * b + b := by ring
        omega
    rw [this] at h
    exact Prod.ext (Fin.ext this) (Fin.ext (by show i₁.val = i₂.val; omega))
  unfold before total
  simp only [Finset.card_filter]
  rw [← bij.sum_comp fun R => if R < tok c r ∧ E R = E (tok c r) then 1 else 0, Fintype.sum_prod_type]
  have split : ∀ c' : Fin n, (∑ i : Fin b, if tok c' i < tok c r ∧ E (tok c' i) = E (tok c r) then 1 else 0)
      = (if c' < c then ∑ i : Fin b, (if E (tok c' i) = E (tok c r) then 1 else 0) else 0)
        + if c' = c then ∑ i : Fin b, (if i < r ∧ E (tok c i) = E (tok c r) then 1 else 0) else 0 := fun c' => by
    simp only [lt_iff]
    rcases lt_trichotomy c' c with h | h | h
    · rw [if_pos h, if_neg h.ne, add_zero]; simp [h]
    · subst h; simp
    · rw [if_neg h.le.not_gt, if_neg h.ne', add_zero]
      exact Finset.sum_eq_zero fun i _ => if_neg fun g => g.1.elim (fun g => absurd g h.le.not_gt) fun g => absurd g.1 h.ne'
  simp only [split, Finset.sum_add_distrib, Finset.sum_ite_eq', Finset.mem_univ, if_true]

end Cert.Moe
-- ==== Proof.CutValue.lean ====
/-
# The capacity cut

What the kernel leaves at a token and a column: its accumulator, kept where fewer than 409 earlier tokens went to the token's
expert.
-/
module

public import proofs.«01_k».proof.Proof.StepValue
public import proofs.«01_k».proof.Proof.Count

@[expose] public section

noncomputable section

namespace Cert.Moe

open Cert.KernelIdeal Cert.KernelIdeal.Gen
open Idealize.ShloMosaic hiding ix0 ix1 ix2 ix3
open Idealize.ShloMosaic.ValueIdx

/-- A sum of words of counts is the word of the counts' sum. -/
theorem sum_word {ι : Type} [Fintype ι] (f : ι → ℕ) : (∑ i : ι, BitVec.ofNat 32 (f i)) = BitVec.ofNat 32 (∑ i : ι, f i) :=
  (Nat.cast_sum (R := BitVec 32) Finset.univ f).symm

theorem slt_device : ∀ c' c : Fin 32, IntOp.cmpi .slt (BitVec.ofNat 32 c'.val) (BitVec.ofNat 32 c.val) = BitVec.ofBool (decide (c' < c)) := by
  decide +kernel

/-- The tokens of expert `l` on the devices before `c`. -/
def ahead (T : Fin 32 → Fin 128 → ℕ) (c : Fin 32) (l : Fin 128) : ℕ := ∑ c' : Fin 32, if c' < c then T c' l else 0

theorem ahead_le (T : Fin 32 → Fin 128 → ℕ) (hT : ∀ c' l, T c' l ≤ 2048) (c : Fin 32) (l : Fin 128) : ahead T c l ≤ 65536 := by
  refine (Finset.sum_le_card_nsmul _ _ 2048 fun c' _ => ?_).trans (by simp)
  split
  · exact hT c' l
  · exact Nat.zero_le _

theorem ahead_word (T : Fin 32 → Fin 128 → ℕ) (hists : Vec Ideal S32x128 .i32) (hh : ∀ c' l, hists (ix2 c' l) = BitVec.ofNat 32 (T c' l))
    (c : Fin 32) (l : Fin 128) :
    Finset.fold IntOp.addi 0#32 (fun c' : Fin 32 => Scalar.select (IntOp.cmpi .slt (BitVec.ofNat 32 c'.val) (BitVec.ofNat 32 c.val)) (hists (ix2 c' l)) 0#32)
      Finset.univ = BitVec.ofNat 32 (ahead T c l) := by
  rw [fold_addi, ahead, ← sum_word]
  refine Finset.sum_congr rfl fun c' _ => ?_
  rw [slt_device, hh]
  by_cases h : c' < c
  · rw [if_pos h, decide_eq_true h]; rfl
  · rw [if_neg h, decide_eq_false h]; rfl

theorem limit : Ideal.ofBits .f32 1137475584#32 = ((409 : ℝ) : EReal) := by
  simp [Ideal.ofBits, Ideal.ieee, -EReal.coe_mul]
  norm_num

theorem float_bit (b : Bool) : FloatOps.sitofp (F := Ideal) FTy.f32 (BitVec.setWidth 32 (BitVec.ofBool b)) = if b then 1 else 0 := bit_val b

theorem float_word (n : ℕ) (h : n ≤ 65536) : FloatOps.sitofp (F := Ideal) FTy.f32 (BitVec.ofNat 32 n) = ((n : ℝ) : EReal) := by
  show (((BitVec.ofNat 32 n).toInt : ℝ) : EReal) = _
  rw [StableHlo.Predicate.toInt_ofNat_small _ (by omega)]
  norm_cast

theorem own_word (v : BitVec 32) (h : v.toNat < 128) (l : Fin 128) :
    IntOp.cmpi .eq v (BitVec.ofNat 32 l.val) = BitVec.ofBool (decide (l = (⟨v.toNat, h⟩ : Fin 128))) := by
  refine congrArg BitVec.ofBool ?_
  have hl := l.isLt
  show (v == BitVec.ofNat 32 l.val) = _
  rw [Bool.eq_iff_iff, beq_iff_eq, decide_eq_true_iff, ← BitVec.toNat_inj, BitVec.toNat_ofNat, Fin.ext_iff]
  show _ ↔ l.val = v.toNat
  omega

theorem own_term (v : BitVec 32) (h : v.toNat < 128) (l : Fin 128) (n : ℕ) (hn : n ≤ 65536) :
    FloatOps.sitofp (F := Ideal) FTy.f32 (BitVec.setWidth 32 (IntOp.cmpi CmpIPredicate.eq v (BitVec.ofNat 32 l.val)))
        * FloatOps.sitofp (F := Ideal) FTy.f32 (BitVec.ofNat 32 n)
      = if l = (⟨v.toNat, h⟩ : Fin 128) then ((n : ℝ) : EReal) else 0 := by
  rw [own_word v h, float_bit, float_word n hn]
  by_cases g : l = (⟨v.toNat, h⟩ : Fin 128)
  · rw [if_pos g, decide_eq_true g]; exact one_mul _
  · rw [if_neg g, decide_eq_false g]; exact zero_mul _

theorem keep_term (a : EReal) (n s : ℕ) :
    a * FloatOps.sitofp (F := Ideal) FTy.f32 (BitVec.setWidth 32 (BitVec.ofBool (decide (((n : ℝ) : EReal) + ((s : ℝ) : EReal) < Ideal.ofBits .f32 1137475584#32))))
      = if s + n < 409 then a else 0 := by
  have hc : ((n : ℝ) : EReal) + ((s : ℝ) : EReal) < ((409 : ℝ) : EReal) ↔ s + n < 409 := by
    rw [← EReal.coe_add, EReal.coe_lt_coe_iff]
    norm_cast
    omega
  rw [float_bit, limit]
  by_cases g : s + n < 409
  · rw [if_pos g, decide_eq_true (hc.2 g)]; exact mul_one _
  · rw [if_neg g, decide_eq_false fun k => g (hc.1 k)]; exact mul_zero _

theorem cut_apply (T : Fin 32 → Fin 128 → ℕ) (hT : ∀ c' l, T c' l ≤ 2048) (c : Dev nD) (hists : Vec Ideal S32x128 .i32)
    (hh : ∀ c' l, hists (ix2 c' l) = BitVec.ofNat 32 (T c' l)) (e : Vec Ideal S2048x1 .i32) (rk : Vec Ideal S2048x1 .f32)
    (A : Vec Ideal S2048x1024 .f32) (r : Fin 2048) (j : Fin 1024) (n : ℕ) (hrk : rk (ix2 r (0 : Fin 1)) = ((n : ℝ) : EReal))
    (h : (ew e r).toNat < 128) :
    k0_pay1 (F := Ideal) (word c) hists e rk A (ix2 r j) = if ahead T c ⟨(ew e r).toNat, h⟩ + n < 409 then A (ix2 r j) else 0 := by
  have hs : (∑ l : Fin 128,
      FloatOps.sitofp (F := Ideal) FTy.f32 (BitVec.setWidth 32 (IntOp.cmpi CmpIPredicate.eq (ew e r) (BitVec.ofNat 32 l.val)))
        * FloatOps.sitofp (F := Ideal) FTy.f32 (Finset.fold IntOp.addi 0#32
          (fun c' : Fin 32 => Scalar.select (IntOp.cmpi .slt (BitVec.ofNat 32 c'.val) (word c)) (hists (ix2 c' l)) 0#32) Finset.univ))
      = ((ahead T c ⟨(ew e r).toNat, h⟩ : ℝ) : EReal) := by
    refine (Finset.sum_congr rfl fun l _ => ?_).trans
      ((Finset.sum_ite_eq' Finset.univ (⟨(ew e r).toNat, h⟩ : Fin 128) fun l => ((ahead T c l : ℝ) : EReal)).trans (if_pos (Finset.mem_univ _)))
    rw [word, ahead_word T hists hh]
    exact own_term _ h l _ (ahead_le T hT c l)
  refine Eq.trans ?_ (keep_term _ n _)
  rw [← hs, ← hrk, ← Idealize.ShloMosaic.ix2_eq_valueIdx]
  pointwise [k0_pay1]
  simp only [Idealize.ShloMosaic.ix2_eq_valueIdx]
  rfl

theorem cut_zero (v : BitVec 32) (hists : Vec Ideal S32x128 .i32) (e : Vec Ideal S2048x1 .i32) (rk : Vec Ideal S2048x1 .f32)
    (A : Vec Ideal S2048x1024 .f32) (r : Fin 2048) (j : Fin 1024) (hA : A (ix2 r j) = 0) : k0_pay1 (F := Ideal) v hists e rk A (ix2 r j) = 0 := by
  rw [← Idealize.ShloMosaic.ix2_eq_valueIdx]
  pointwise [k0_pay1]
  rw [Idealize.ShloMosaic.ix2_eq_valueIdx, hA, zero_mul]

end Cert.Moe
-- ==== Proof.HostValue.lean ====
/-
# What the kernel reads

The kernel's windows are whole arrays, and the two that the host computes hold the counts of the device's own tokens: how many go
to each expert, and how many of those before a token go to the token's expert.
-/
module

public import proofs.«01_k».proof.Proof.Start
public import proofs.«01_k».proof.Proof.CutValue

@[expose] public section

noncomputable section

namespace Cert.Moe

open Cert.KernelIdeal Cert.KernelIdeal.Gen
open Idealize.ShloMosaic hiding ix0 ix1 ix2 ix3
open Idealize.ShloMosaic.TcCoe
open Idealize.ShloMosaic.ValueIdx Idealize.ShloMosaic.Routing

variable {F : FTy → Type} [FloatOps F]
variable (m : (ℓ : Loc nD τ sig) → Buf (Elt F) ℓ) (c : Dev nD)

/-! ## The windows -/

theorem emb_0 (t : Fin cfg0.N) (j : S2048x512.Idx) : ((cfg0.win 0).blk t).view.emb j = j := by
  funext a; apply Fin.ext
  match a with
  | ⟨0, _⟩ => show 0 * 2048 + 1 * (j 0).val = (j 0).val; omega
  | ⟨1, _⟩ => show 0 * 512 + 1 * (j 1).val = (j 1).val; omega
theorem emb_1 (t : Fin cfg0.N) (j : S2048x1.Idx) : ((cfg0.win 1).blk t).view.emb j = j := by
  funext a; apply Fin.ext
  match a with
  | ⟨0, _⟩ => show 0 * 2048 + 1 * (j 0).val = (j 0).val; omega
  | ⟨1, _⟩ => show 0 * 1 + 1 * (j 1).val = (j 1).val; omega
theorem emb_2 (t : Fin cfg0.N) (j : S4x512x1024.Idx) : ((cfg0.win 2).blk t).view.emb j = j := by
  funext a; apply Fin.ext
  match a with
  | ⟨0, _⟩ => show 0 * 4 + 1 * (j 0).val = (j 0).val; omega
  | ⟨1, _⟩ => show 0 * 512 + 1 * (j 1).val = (j 1).val; omega
  | ⟨2, _⟩ => show 0 * 1024 + 1 * (j 2).val = (j 2).val; omega
theorem emb_3 (t : Fin cfg0.N) (j : S1x128.Idx) : ((cfg0.win 3).blk t).view.emb j = j := by
  funext a; apply Fin.ext
  match a with
  | ⟨0, _⟩ => show 0 * 1 + 1 * (j 0).val = (j 0).val; omega
  | ⟨1, _⟩ => show 0 * 128 + 1 * (j 1).val = (j 1).val; omega
theorem emb_4 (t : Fin cfg0.N) (j : S2048x1.Idx) : ((cfg0.win 4).blk t).view.emb j = j := by
  funext a; apply Fin.ext
  match a with
  | ⟨0, _⟩ => show 0 * 2048 + 1 * (j 0).val = (j 0).val; omega
  | ⟨1, _⟩ => show 0 * 1 + 1 * (j 1).val = (j 1).val; omega
theorem emb_5 (t : Fin cfg0.N) (j : S2048x1024.Idx) : ((cfg0.win 5).blk t).view.emb j = j := by
  funext a; apply Fin.ext
  match a with
  | ⟨0, _⟩ => show 0 * 2048 + 1 * (j 0).val = (j 0).val; omega
  | ⟨1, _⟩ => show 0 * 1024 + 1 * (j 1).val = (j 1).val; omega

theorem X0_eq : X0 m c = m ((c : Thread nD τ).loc main_arg0) := by
  refine Eq.trans (funext fun j => ?_) (V_main_arg0 m c)
  show V m c main_arg0 (((cfg0.win 0).blk t0_0).view.emb j) = V m c main_arg0 j
  rw [emb_0]
theorem E0_eq : E0 m c = m ((c : Thread nD τ).loc main_arg2) := by
  refine Eq.trans (funext fun j => ?_) (V_main_arg2 m c)
  show V m c main_arg2 (((cfg0.win 1).blk t0_0).view.emb j) = V m c main_arg2 j
  rw [emb_1]
theorem W0_eq : W0 m c = m ((c : Thread nD τ).loc main_arg3) := by
  refine Eq.trans (funext fun j => ?_) (V_main_arg3 m c)
  show V m c main_arg3 (((cfg0.win 2).blk t0_0).view.emb j) = V m c main_arg3 j
  rw [emb_2]
theorem H0_V : H0 m c = V m c main_v10 := by
  funext j
  show V m c main_v10 (((cfg0.win 3).blk t0_0).view.emb j) = V m c main_v10 j
  rw [emb_3]
theorem R0_V : R0 m c = V m c main_v16 := by
  funext j
  show V m c main_v16 (((cfg0.win 4).blk t0_0).view.emb j) = V m c main_v16 j
  rw [emb_4]

/-- The result array after the run. -/
theorem result_eq : (dat m c).arrAt 5 cfg0.N = Y0 m c :=
  (dat m c).arrAt_eq_of_cover 5 (Y0 m c)
    (fun t _ => by
      funext j
      show (dat m c).after 5 t j = Y0 m c (((cfg0.win 5).blk t).view.emb j)
      rw [after_5, emb_5])
    (fun i => ⟨t0_0, flush0_5 _, by have h := ((cfg0.win 5).blk t0_0).view.emb_mem_set i; rwa [emb_5] at h⟩)

/-! ## The host's counts -/

section
variable (e : Vec F S2048x1 .i32)
/-- Token by expert: one where the token goes to the expert. -/
def hot : Vec F S2048x128 .i32 :=
  extui 32 (cmpi .eq
    (broadcastInDim S2048x128 ![0, 1] bcast_S2048x1_S2048x128_0_1 (broadcastInDim S2048x1 ![0] bcast_S2048_S2048x1_0 (shapeCast S2048 e shapeCasts_S2048x1_S2048)))
    (broadcastInDim S2048x128 ![0, 1] bcast_S1x128_S2048x128_0_1 (broadcastInDim S1x128 ![1] bcast_S128_S1x128_1 (iotaInDim S128 32 0)))) natLt_1_32
/-- How many tokens go to each expert. -/
def hist : Vec F S1x128 .i32 :=
  broadcastInDim S1x128 ![1] bcast_S128_S1x128_1 (Host.reduce IntOp.addi (hot (F := F) e) (constantI S_ 32 0#32) reducesTo_S2048x128_S128_d0 h_S_)
/-- How many tokens before this one go to its expert. -/
def place : Vec F S2048 .i32 :=
  Host.reduce IntOp.addi (muli (subi
    (Host.reduceWindow IntOp.addi ![2048, 1] ![1, 1] ![2047, 0] ![0, 0] (hot (F := F) e) (broadcastInDim S_ ![] bcast_S_S_ (constantI S_ 32 0#32))
      reduceWindows_S2048x128_S2048x128_w2048s1p2047_0_w1s1p0_0 h_S_) (hot (F := F) e)) (hot (F := F) e)) (constantI S_ 32 0#32) reducesTo_S2048x128_S2048_d1 h_S_
end

theorem H0_eq : H0 m c = hist (F := F) (E0 m c) := by
  rw [H0_V, E0_eq]
  unfold V
  simp only [List.flatten_cons, List.flatten_nil, List.append_nil, List.cons_append, List.nil_append]
  after_results_simp
  unfold hist hot
  rfl

theorem R0_eq : R0 m c = sitofp .f32 (broadcastInDim S2048x1 ![0] bcast_S2048_S2048x1_0 (place (F := F) (E0 m c))) := by
  rw [R0_V, E0_eq]
  unfold V
  simp only [List.flatten_cons, List.flatten_nil, List.append_nil, List.cons_append, List.nil_append]
  after_results_simp
  simp only [StableHlo.TRef.ofBuf_toBuf]
  simp only [StableHlo.TRef.ofBuf, StableHlo.TRef.toBuf, cast_eq, id]
  unfold place hot
  rfl

section
variable (e : Vec Ideal S2048x1 .i32)
theorem hot_apply (r : Fin 2048) (l : Fin 128) : hot (F := Ideal) e (ix2 r l) = if ew e r = BitVec.ofNat 32 l.val then 1#32 else 0#32 := by
  have h0 : shapeCast S2048 e shapeCasts_S2048x1_S2048 (ix1 r) = ew e r :=
    cast21 e shapeCasts_S2048x1_S2048 r 0 r (by show r.val = r.val * 1 + 0; omega)
  have h1 := bcRows bcast_S2048_S2048x1_0 bcast_S2048x1_S2048x128_0_1 (shapeCast S2048 e shapeCasts_S2048x1_S2048) r l
  have h2 := bcCols (n := 2048) bcast_S128_S1x128_1 bcast_S1x128_S2048x128_0_1 (iotaInDim S128 32 0) r l
  show (BitVec.setWidth 32 (BitVec.ofBool (_ == _))) = _
  rw [h1, h2, h0]
  show (BitVec.setWidth 32 (BitVec.ofBool (ew e r == BitVec.ofNat 32 l.val))) = _
  by_cases h : ew e r = BitVec.ofNat 32 l.val
  · rw [if_pos h, h]; simp
  · rw [if_neg h, beq_eq_false_iff_ne.2 h]; rfl

theorem hist_value (l : Fin 128) : hist (F := Ideal) e (ix2 (0 : Fin 1) l) = BitVec.ofNat 32 (total (ew e) (BitVec.ofNat 32 l.val)) := by
  refine Eq.trans ?_ (hist_apply (ew e) (hot (F := Ideal) e) (hot_apply e) h_S_ reducesTo_S2048x128_S128_d0 l)
  unfold hist
  generalize Host.reduce IntOp.addi (hot (F := Ideal) e) (constantI S_ 32 0#32) reducesTo_S2048x128_S128_d0 h_S_ = g
  rw [← Idealize.ShloMosaic.ix2_eq_valueIdx, ← Idealize.ShloMosaic.ix1_eq_valueIdx]
  pointwise

theorem place_value (r : Fin 2048) (h : (ew e r).toNat < 128) :
    sitofp (F := Ideal) .f32 (broadcastInDim S2048x1 ![0] bcast_S2048_S2048x1_0 (place (F := Ideal) e)) (ix2 r (0 : Fin 1)) = ((before (ew e) r : ℝ) : EReal) := by
  have hb := before_lt (ew e) r
  have hp : place (F := Ideal) e (ix1 r) = BitVec.ofNat 32 (before (ew e) r) :=
    (rank_apply (p := 2047) rfl (ew e) (hot (F := Ideal) e) (hot_apply e) _ rfl _ _ _ r).trans (if_pos h)
  have hc := bcCol bcast_S2048_S2048x1_0 (place (F := Ideal) e) r
  show FloatOps.sitofp (F := Ideal) FTy.f32 (broadcastInDim S2048x1 ![0] bcast_S2048_S2048x1_0 (place (F := Ideal) e) (ix2 r (0 : Fin 1))) = _
  rw [hc, hp]
  exact float_word _ (by omega)
end

end Cert.Moe
-- ==== Proof.RefValue.lean ====
/-
# The reference's value

The reference's result at a token and a column: the token times its expert's weights where the expert exists and fewer than 409
earlier tokens went to it, zero elsewhere.
-/
module

public import proofs.«01_k».proof.Proof.Ref
public import proofs.«01_k».proof.Proof.Count

@[expose] public section

noncomputable section

namespace Cert.Moe.Ref

open Cert.ReferenceIdeal Facts₀ Facts
open Idealize.ShloMosaic hiding ix0 ix1 ix2 ix3
open Idealize.ShloMosaic.ValueIdx Idealize.ShloMosaic.Routing

variable (x : Vec Ideal S65536x512 .bf16) (e : Vec Ideal S65536x1 .i32) (w : Vec Ideal S128x512x1024 .bf16)

/-- The expert word of each token. -/
def words (R : Fin 65536) : BitVec 32 := e (ix2 R (0 : Fin 1))

theorem expert_apply (R : Fin 65536) : expert (F := Ideal) e (ix1 R) = words e R :=
  cast21 e shapeCasts_S65536x1_S65536 R 0 R (by show R.val = R.val * 1 + 0; omega)

theorem oneHot_apply (R : Fin 65536) (l : Fin 128) :
    oneHot (F := Ideal) e (ix2 R l) = if words e R = BitVec.ofNat 32 l.val then 1#32 else 0#32 := by
  have h1 := bcRows bcast_S65536_S65536x1_0 bcast_S65536x1_S65536x128_0_1 (expert (F := Ideal) e) R l
  have h2 := bcCols (n := 65536) bcast_S128_S1x128_1 bcast_S1x128_S65536x128_0_1 (iotaInDim S128 32 0) R l
  show (BitVec.setWidth 32 (BitVec.ofBool (_ == _))) = _
  rw [h1, h2, expert_apply]
  show (BitVec.setWidth 32 (BitVec.ofBool (words e R == BitVec.ofNat 32 l.val))) = _
  by_cases h : words e R = BitVec.ofNat 32 l.val
  · rw [if_pos h, h]; simp
  · rw [if_neg h, beq_eq_false_iff_ne.2 h]; rfl

theorem rank_eq (R : Fin 65536) :
    rank (F := Ideal) e (ix1 R) = if (words e R).toNat < 128 then BitVec.ofNat 32 (before (words e) R) else 0#32 :=
  rank_apply (p := 65535) rfl (words e) (oneHot (F := Ideal) e) (oneHot_apply e) _ rfl _ _ _ R

theorem in_range (v : BitVec 32) : IntOp.andi (IntOp.cmpi .sge v 0#32) (IntOp.cmpi .slt v 128#32) = 1#1 ↔ v.toNat < 128 := by
  have e : IntOp.andi (IntOp.cmpi .sge v 0#32) (IntOp.cmpi .slt v 128#32) = BitVec.ofBool ((0#32).sle v && v.slt 128#32) := by
    have h : ∀ a b : Bool, BitVec.ofBool a &&& BitVec.ofBool b = BitVec.ofBool (a && b) := by decide
    exact h _ _
  rw [e, show (1#1 : BitVec 1) = BitVec.ofBool true from rfl]
  have inj : ∀ b : Bool, BitVec.ofBool b = BitVec.ofBool true ↔ b = true := by decide
  rw [inj, Bool.and_eq_true, BitVec.sle_iff_toInt_le, BitVec.slt_iff_toInt_lt, BitVec.toInt_eq_toNat_cond (x := v)]
  have := v.isLt
  show (0 : Int) ≤ _ ∧ _ < (128 : Int) ↔ _
  split <;> omega

theorem keep_iff (R : Fin 65536) :
    keep (F := Ideal) e (ix1 R) = 1#1 ↔ (words e R).toNat < 128 ∧ before (words e) R < 409 := by
  have hb := before_lt (words e) R
  have hk : keep (F := Ideal) e (ix1 R)
      = IntOp.andi (IntOp.andi (IntOp.cmpi .sge (expert (F := Ideal) e (ix1 R)) 0#32) (IntOp.cmpi .slt (expert (F := Ideal) e (ix1 R)) 128#32))
          (IntOp.cmpi .slt (rank (F := Ideal) e (ix1 R)) 409#32) := by
    have h0 : broadcastInDim S65536 ![] bcast_S_S65536 (constantI S_ 32 0#32) (ix1 R) = 0#32 := bc0 ..
    have h1 : broadcastInDim S65536 ![] bcast_S_S65536 (constantI S_ 32 128#32) (ix1 R) = 128#32 := bc0 ..
    have h2 : broadcastInDim S65536 ![] bcast_S_S65536 (constantI S_ 32 409#32) (ix1 R) = 409#32 := bc0 ..
    rw [← h0, ← h1, ← h2]; rfl
  have and_iff : ∀ a b : BitVec 1, IntOp.andi a b = 1#1 ↔ a = 1#1 ∧ b = 1#1 := by decide
  rw [hk, and_iff, in_range, expert_apply, rank_eq]
  refine and_congr_right fun h => ?_
  rw [if_pos h]
  have inj : ∀ b : Bool, BitVec.ofBool b = 1#1 ↔ b = true := by decide
  show BitVec.ofBool _ = 1#1 ↔ _
  rw [inj, BitVec.slt_iff_toInt_lt, StableHlo.Predicate.toInt_ofNat_small _ (by omega)]
  show (_ : Int) < (409 : Int) ↔ _
  omega

/-- The gather's dimensions. -/
abbrev gd := gather_S128x512x1024_S65536x1_S65536x512x1024_12_0_n_n_0_1_15121024

theorem taken_apply (R : Fin 65536) (h : (words e R).toNat < 128) (d : Fin 512) (j : Fin 1024) :
    taken (F := Ideal) e w (ix3 R d j) = w (ix3 ⟨(words e R).toNat, h⟩ d j) := by
  have hi : broadcastInDim S65536x1 ![0] bcast_S65536_S65536x1_0 (expert (F := Ideal) e) (ix2 R (0 : Fin 1)) = words e R :=
    (bcCol bcast_S65536_S65536x1_0 _ R).trans (expert_apply e R)
  unfold taken Host.gather
  show w _ = _
  refine congrArg w (funext fun a => Fin.ext ?_)
  match a with
  | ⟨0, _⟩ =>
    show gd.start _ _ (0 : Fin 3) + gd.batchCoord _ (0 : Fin 3) + gd.offCoord _ (0 : Fin 3) = (words e R).toNat
    rw [GatherDims.batchCoord_eq_zero _ _ _ (by decide), GatherDims.offCoord_eq_zero _ _ _ (by decide)]
    unfold GatherDims.start
    rw [dif_pos (by decide)]
    have hs : ∀ k, gd.siIdx (ix3 R d j) k = ix2 R (0 : Fin 1) := fun k => by
      funext b
      match b with
      | ⟨0, _⟩ => rfl
      | ⟨1, _⟩ => exact Subsingleton.elim (α := Fin 1) _ _
    rw [hs, hi, StableHlo.Predicate.toInt_eq_toNat_of_lt (by omega)]
    show min (words e R).toNat 127 = _
    omega
  | ⟨1, _⟩ =>
    show gd.start _ _ (1 : Fin 3) + gd.batchCoord _ (1 : Fin 3) + gd.offCoord _ (1 : Fin 3) = d.val
    rw [GatherDims.batchCoord_eq_zero _ _ _ (by decide)]
    unfold GatherDims.start
    rw [dif_neg (by decide), Nat.zero_add]
    rfl
  | ⟨2, _⟩ =>
    show gd.start _ _ (2 : Fin 3) + gd.batchCoord _ (2 : Fin 3) + gd.offCoord _ (2 : Fin 3) = j.val
    rw [GatherDims.batchCoord_eq_zero _ _ _ (by decide)]
    unfold GatherDims.start
    rw [dif_neg (by decide), Nat.zero_add]
    rfl

theorem prod_apply (R : Fin 65536) (j : Fin 1024) :
    prod (F := Ideal) x e w (ix2 R j) = ∑ d : Fin 512, x (ix2 R d) * taken (F := Ideal) e w (ix3 R d j) := by
  unfold prod
  generalize taken (F := Ideal) e w = T
  rw [← Idealize.ShloMosaic.ix2_eq_valueIdx]
  pointwise
  simp only [Idealize.ShloMosaic.ix2_eq_valueIdx, Idealize.ShloMosaic.ix3_eq_valueIdx]

theorem out_apply (R : Fin 65536) (j : Fin 1024) :
    refOut (F := Ideal) x e w (ix2 R j)
      = if h : (words e R).toNat < 128 then
          if before (words e) R < 409 then ∑ d : Fin 512, x (ix2 R d) * w (ix3 ⟨(words e R).toNat, h⟩ d j) else 0
        else (0 : EReal) := by
  have hz : broadcastInDim S65536x1024 ![] bcast_S_S65536x1024 (constant (F := Ideal) S_ .f32 0x00000000#32) (ix2 R j) = (0 : EReal) := by
    rw [bc0]
    exact Ideal.ofBits_zero_f32
  have hk := bcRows bcast_S65536_S65536x1_0 bcast_S65536x1_S65536x1024_0_1 (keep (F := Ideal) e) R j
  have hs : refOut (F := Ideal) x e w (ix2 R j) = if keep (F := Ideal) e (ix1 R) = 1#1 then prod (F := Ideal) x e w (ix2 R j) else 0 := by
    rw [← hz, ← hk]; rfl
  rw [hs]
  by_cases h : (words e R).toNat < 128
  · rw [dif_pos h]
    by_cases h' : before (words e) R < 409
    · rw [if_pos ((keep_iff e R).2 ⟨h, h'⟩), if_pos h', prod_apply]
      exact Finset.sum_congr rfl fun d _ => by rw [taken_apply e w R h d j]
    · rw [if_neg h', if_neg fun g => h' ((keep_iff e R).1 g).2]
  · rw [dif_neg h, if_neg fun g => h ((keep_iff e R).1 g).1]

end Cert.Moe.Ref
-- ==== Proof.Algebra.lean ====
/-
# The kernel computes the reference

Device by device, what the kernel leaves at a token and a column is what the reference has there.
-/
module

public import proofs.«01_k».proof.Defs
public import proofs.«01_k».proof.Proof.HostValue
public import proofs.«01_k».proof.Proof.RefValue

@[expose] public section

noncomputable section

namespace Cert.Moe

open Cert.KernelIdeal Cert.KernelIdeal.Gen
open Idealize.ShloMosaic hiding ix0 ix1 ix2 ix3
open Idealize.ShloMosaic.TcCoe Idealize.SL.Sem
open Idealize.ShloMosaic.ValueIdx

/-! Each array's block of rows, or of experts. -/

theorem tiles_x : Layout.Tiles ⟨2, ![2048, 512]⟩ ⟨2, ![65536, 512]⟩ 0 32 := by decide
theorem tiles_e : Layout.Tiles ⟨2, ![2048, 1]⟩ ⟨2, ![65536, 1]⟩ 0 32 := by decide
theorem tiles_w : Layout.Tiles ⟨3, ![4, 512, 1024]⟩ ⟨3, ![128, 512, 1024]⟩ 0 32 := by decide
theorem tiles_out : Layout.Tiles ⟨2, ![2048, 1024]⟩ ⟨2, ![65536, 1024]⟩ 0 32 := by decide

variable (m : (ℓ : Loc nD τ sig) → Buf (Elt Ideal) ℓ)
variable (x : Vec Ideal ⟨2, ![65536, 512]⟩ .bf16) (e : Vec Ideal ⟨2, ![65536, 1]⟩ .i32) (w : Vec Ideal ⟨3, ![128, 512, 1024]⟩ .bf16)
variable (hx : ∀ c : Dev nD, m ((c : Thread nD τ).loc main_arg0) = Layout.block ⟨2, ![2048, 512]⟩ ⟨2, ![65536, 512]⟩ 0 32 c x tiles_x)
  (he : ∀ c : Dev nD, m ((c : Thread nD τ).loc main_arg2) = Layout.block ⟨2, ![2048, 1]⟩ ⟨2, ![65536, 1]⟩ 0 32 c e tiles_e)
  (hw : ∀ c : Dev nD, m ((c : Thread nD τ).loc main_arg3) = Layout.block ⟨3, ![4, 512, 1024]⟩ ⟨3, ![128, 512, 1024]⟩ 0 32 c w tiles_w)

/-- Token `r` of device `c`, among all tokens. -/
abbrev tk (c : Dev nD) (r : Fin 2048) : Fin 65536 := tok (n := 32) (b := 2048) c r

include hx in
theorem x_apply (c : Dev nD) (r : Fin 2048) (d : Fin 512) : X0 m c (ix2 r d) = x (ix2 (tk c r) d) := by
  rw [X0_eq, hx]
  exact congrArg x (funext fun a => Fin.ext (by
    match a with
    | ⟨0, _⟩ => rfl
    | ⟨1, _⟩ => rfl))

include he in
theorem e_apply (c : Dev nD) (r : Fin 2048) : ew (E0 m c) r = Ref.words e (tk c r) := by
  unfold ew
  rw [E0_eq, he]
  exact congrArg e (funext fun a => Fin.ext (by
    match a with
    | ⟨0, _⟩ => rfl
    | ⟨1, _⟩ => rfl))

include hw in
theorem w_apply (c : Dev nD) (k : Fin 4) (d : Fin 512) (j : Fin 1024) :
    W0 m c (ix3 k d j) = w (ix3 (finProdFinEquiv (c, k) : Fin 128) d j) := by
  rw [W0_eq, hw]
  exact congrArg w (funext fun a => Fin.ext (by
    match a with
    | ⟨0, _⟩ => show c.val * 4 + k.val = k.val + 4 * c.val; ring
    | ⟨1, _⟩ => rfl
    | ⟨2, _⟩ => rfl))

/-- How many of a device's tokens go to an expert. -/
def count (c : Fin 32) (l : Fin 128) : ℕ := total (ew (E0 m c)) (BitVec.ofNat 32 l.val)

theorem tab_apply (c : Fin 32) (l : Fin 128) : tab (H0 m) (ix2 c l) = BitVec.ofNat 32 (count m c l) := by
  show H0 m c (ix2 (0 : Fin 1) l) = _
  rw [H0_eq]
  exact hist_value (E0 m c) l

include he in
theorem ahead_before (c : Dev nD) (r : Fin 2048) (h : (ew (E0 m c) r).toNat < 128) :
    ahead (count m) c ⟨(ew (E0 m c) r).toNat, h⟩ + before (ew (E0 m c)) r = before (Ref.words e) (tk c r) := by
  have own : BitVec.ofNat 32 (ew (E0 m c) r).toNat = Ref.words e (tk c r) := by
    rw [← e_apply m e he]; exact BitVec.eq_of_toNat_eq (by simp)
  have he' : ∀ c' : Fin 32, ew (E0 m c') = fun i => Ref.words e (tk c' i) := fun c' => funext fun i => e_apply m e he c' i
  refine Eq.trans ?_ (before_tok (n := 32) (b := 2048) (Ref.words e) c r).symm
  refine congrArg₂ (· + ·) (Finset.sum_congr rfl fun c' _ => ?_) (by rw [he' c])
  show (if c' < c then total (ew (E0 m c')) (BitVec.ofNat 32 (ew (E0 m c) r).toNat) else 0) = _
  rw [own, he' c']

include hx he hw in
theorem value (c : Dev nD) (r : Fin 2048) (j : Fin 1024) : Y0 m c (ix2 r j) = Ref.refOut (F := Ideal) x e w (ix2 (tk c r) j) := by
  have hA := acc_all (X0 m c) (E0 m c) (W0 m) w (w_apply m w hw) c r j
  rw [Ref.out_apply]
  unfold Y0 res
  rw [me_eq]
  by_cases h : (ew (E0 m c) r).toNat < 128
  · have h' : (Ref.words e (tk c r)).toNat < 128 := by rw [← e_apply m e he]; exact h
    have hrk : R0 m c (ix2 r (0 : Fin 1)) = ((before (ew (E0 m c)) r : ℝ) : EReal) := by
      rw [R0_eq]; exact place_value (E0 m c) r h
    rw [cut_apply (count m) (fun c' l => total_le _ _) c (tab (H0 m)) (tab_apply m) (E0 m c) (R0 m c) _ r j _ hrk h,
      ahead_before m e he c r h, hA, dif_pos h, dif_pos h']
    have hl : (⟨(ew (E0 m c) r).toNat, h⟩ : Fin 128) = ⟨(Ref.words e (tk c r)).toNat, h'⟩ := Fin.ext (congrArg BitVec.toNat (e_apply m e he c r))
    rw [hl]
    refine if_congr Iff.rfl (Finset.sum_congr rfl fun d _ => ?_) rfl
    rw [x_apply m x hx]
  · have h' : ¬ (Ref.words e (tk c r)).toNat < 128 := by rw [← e_apply m e he]; exact h
    rw [dif_neg h']
    exact cut_zero _ _ _ _ _ r j (hA.trans (dif_neg h))

include hx he hw in
theorem value_block (c : Dev nD) :
    Y0 m c = Layout.block ⟨2, ![2048, 1024]⟩ ⟨2, ![65536, 1024]⟩ 0 32 c (Ref.refOut (F := Ideal) x e w) tiles_out := by
  funext i
  have hi : i = ix2 (i 0) (i 1) := funext fun a => by
    match a with
    | ⟨0, _⟩ => rfl
    | ⟨1, _⟩ => rfl
  refine (congrArg (Y0 m c) hi).trans ((value m x e w hx he hw c (i 0) (i 1)).trans ?_)
  exact congrArg (Ref.refOut (F := Ideal) x e w) (funext fun a => Fin.ext (by
    match a with
    | ⟨0, _⟩ => rfl
    | ⟨1, _⟩ => rfl))

end Cert.Moe
-- ==== Proof.lean ====
/-
# The certificate

The program printed for the machine's floats and the one printed for exact values are the same text, so one run, stated for
any float values, gives both frames. Over exact values that run's result is the reference's.
-/
module

public import proofs.«01_k».proof.Defs
public import proofs.«01_k».proof.Proof.Gen.Kernel
public import proofs.«01_k».proof.Proof.Start
public import proofs.«01_k».proof.Proof.Ref
public import proofs.«01_k».proof.Proof.Algebra

@[expose] public section

noncomputable section

namespace Cert.Moe

open Idealize.ShloMosaic Idealize.ShloMosaic.TcCoe Idealize.SL.Sem

/-- The kernel's run over any float values, with what it computes dropped. -/
theorem frame_any {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      fun r => (∀ c : Dev Cert.KernelIdeal.nD,
        r.2.mem ((c.tc : Thread _ Cert.KernelIdeal.τ).loc Cert.KernelIdeal.main_arg0) = m (c.tc.loc Cert.KernelIdeal.main_arg0)
        ∧ r.2.mem ((c.tc : Thread _ Cert.KernelIdeal.τ).loc Cert.KernelIdeal.main_arg1) = m (c.tc.loc Cert.KernelIdeal.main_arg1)
        ∧ r.2.mem ((c.tc : Thread _ Cert.KernelIdeal.τ).loc Cert.KernelIdeal.main_arg2) = m (c.tc.loc Cert.KernelIdeal.main_arg2)
        ∧ r.2.mem ((c.tc : Thread _ Cert.KernelIdeal.τ).loc Cert.KernelIdeal.main_arg3) = m (c.tc.loc Cert.KernelIdeal.main_arg3))
        ∧ r.2.sem = fun _ => 0 :=
  (θ_run _ _ _).mono (fun _ h => ⟨fun c => (h.1 c).2, h.2⟩) (run_main m g)

theorem frame_KernelIdeal : Cert.quiescent_KernelIdeal := fun m g _ => frame_any (F := Ideal) m g

/-- The two printings have the same kernel body, hence the same table of called functions. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs (Cert.KernelIdeal.pcfgs (F := Bits))) bodies_eq

theorem frame_Kernel : Cert.quiescent_Kernel := fun m g _ => by
  rw [defs_eq]
  exact frame_any (F := Bits) m g

theorem frame_ReferenceIdeal : Cert.quiescent_ReferenceIdeal := fun m g _ =>
  (θ_run Cert.ReferenceIdeal.defs _ _).mono (fun _ h => ⟨fun c => (h.1 c).2, h.2⟩) (Ref.run_main (F := Ideal) m g)

/-- On every input the devices' results are the blocks of the reference's result. -/
theorem algebraic : Cert.algebraic_KernelIdeal_ReferenceIdeal := fun m g m' g' _ h =>
  ⟨Ref.refOut (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono (fun _ k c => ⟨(k.1 c).1.trans ((result_eq m c).trans
      (value_block m _ _ _ (fun c => (h c).1) (fun c => (h c).2.2.1) (fun c => (h c).2.2.2) c)), (k.1 c).2⟩) (run_main (F := Ideal) m g),
    (θ_run Cert.ReferenceIdeal.defs _ _).mono (fun _ k => k.1 0) (Ref.run_main (F := Ideal) m' g')⟩

end Cert.Moe

theorem Cert.Proof.claim : Cert.Claim :=
  ⟨Cert.Kernel.Gen.facts, Cert.KernelIdeal.Gen.facts, Cert.Moe.Ref.facts, Cert.Moe.frame_Kernel, Cert.Moe.frame_KernelIdeal,
    Cert.Moe.frame_ReferenceIdeal, trivial, Cert.Moe.algebraic⟩
